-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_v55) = v2 c
          ∧ r.2.mem ((c.tc : Thread Cert.ReferenceIdeal.nD Cert.ReferenceIdeal.τ).loc Cert.ReferenceIdeal.main_v35_0) = v3 c
          ∧ r.2.mem ((c.tc : Thread Cert.ReferenceIdeal.nD Cert.ReferenceIdeal.τ).loc Cert.ReferenceIdeal.main_v56) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S8x3072x5120 : Shape := ⟨3, ![8, 3072, 5120]⟩
abbrev S5120x1920 : Shape := ⟨2, ![5120, 1920]⟩
abbrev S1920 : Shape := ⟨1, ![1920]⟩
abbrev S_ : Shape := ⟨0, ![]⟩

class Facts : Prop where
  bitsLt_bf16_f32 : FTy.bits .bf16 < FTy.bits .f32
  bcast_S_S8x3072x5120 : S_.BroadcastsInDim S8x3072x5120 (![] : Fin 0 → Fin S8x3072x5120.rank)

variable [Facts]

def fn {F : FTy → Type} [FloatOps F] (main_arg0 : FVec F S8x3072x5120 .bf16) (main_arg1 : FVec F S5120x1920 .fp8e4m3) (main_arg2 : FVec F S1920 .f32) (main_arg3 : FVec F S1920 .bf16) : IVec S8x3072x5120 1 :=
  let main_v0 : FVec F S8x3072x5120 .f32 := (extf .f32 · bitsLt_bf16_f32) main_arg0
  let main_v1 : FVec F S8x3072x5120 .f32 := Host.absf main_v0
  let main_cst : FVec F S_ .f32 := constant S_ .f32 0x7F7F0000#32
  let main_v2 : FVec F S8x3072x5120 .f32 := broadcastInDim S8x3072x5120 ![] bcast_S_S8x3072x5120 main_cst
  let main_v3 : IVec S8x3072x5120 1 := cmpf .ole main_v1 main_v2
  let main_cst_0 : FVec F S_ .f32 := constant S_ .f32 0x7F800000#32
  let main_v4 : FVec F S8x3072x5120 .f32 := broadcastInDim S8x3072x5120 ![] bcast_S_S8x3072x5120 main_cst_0
  let main_v5 : IVec S8x3072x5120 1 := cmpf .oeq main_v1 main_v4
  let main_v6 : IVec S8x3072x5120 1 := ori main_v3 main_v5
  main_v6
-- ==== Kernel.lean ====
abbrev S8x3072x5120 : Shape := ⟨3, ![8, 3072, 5120]⟩
abbrev S5120x1920 : Shape := ⟨2, ![5120, 1920]⟩
abbrev S1920 : Shape := ⟨1, ![1920]⟩
abbrev S1x1920 : Shape := ⟨2, ![1, 1920]⟩
abbrev S8x5x3072x128 : Shape := ⟨4, ![8, 5, 3072, 128]⟩
abbrev S8x40x3072 : Shape := ⟨3, ![8, 40, 3072]⟩
abbrev S1x256x5120 : Shape := ⟨3, ![1, 256, 5120]⟩
abbrev S1x5x256x128 : Shape := ⟨4, ![1, 5, 256, 128]⟩
abbrev S1x40x256 : Shape := ⟨3, ![1, 40, 256]⟩
abbrev S256x5120 : Shape := ⟨2, ![256, 5120]⟩
abbrev S256x128 : Shape := ⟨2, ![256, 128]⟩
abbrev S1x256x128 : Shape := ⟨3, ![1, 256, 128]⟩
abbrev S256 : Shape := ⟨1, ![256]⟩
abbrev S256x1 : Shape := ⟨2, ![256, 1]⟩
abbrev S256x256 : Shape := ⟨2, ![256, 256]⟩
abbrev S128x256 : Shape := ⟨2, ![128, 256]⟩
abbrev S40x256 : Shape := ⟨2, ![40, 256]⟩
abbrev S256x1920 : Shape := ⟨2, ![256, 1920]⟩
abbrev S1x1x256x128 : Shape := ⟨4, ![1, 1, 256, 128]⟩

abbrev nBuf : Space → Nat
  | .hbm => 11
  | .vmem => 16
  | .smem => 0
  | _ => 0

abbrev bufTy : (tb : Table) → Fin (tcTables nBuf tb) → BufTy
  | .hbm, ⟨0, _⟩ => ⟨S8x3072x5120, .bf16⟩
  | .hbm, ⟨1, _⟩ => ⟨S5120x1920, .fp8e4m3⟩
  | .hbm, ⟨2, _⟩ => ⟨S1920, .f32⟩
  | .hbm, ⟨3, _⟩ => ⟨S1920, .bf16⟩
  | .hbm, ⟨4, _⟩ => ⟨S1x1920, .f32⟩
  | .hbm, ⟨5, _⟩ => ⟨S1x1920, .bf16⟩
  | .hbm, ⟨6, _⟩ => ⟨S8x5x3072x128, .bf16⟩
  | .hbm, ⟨7, _⟩ => ⟨S8x5x3072x128, .bf16⟩
  | .hbm, ⟨8, _⟩ => ⟨S8x5x3072x128, .bf16⟩
  | .hbm, ⟨9, _⟩ => ⟨S8x3072x5120, .fp8e4m3⟩
  | .hbm, ⟨10, _⟩ => ⟨S8x40x3072, .f32⟩
  | .local _ .vmem, ⟨0, _⟩ => ⟨S1x256x5120, .bf16⟩
  | .local _ .vmem, ⟨1, _⟩ => ⟨S1x256x5120, .bf16⟩
  | .local _ .vmem, ⟨2, _⟩ => ⟨S5120x1920, .fp8e4m3⟩
  | .local _ .vmem, ⟨3, _⟩ => ⟨S1x1920, .f32⟩
  | .local _ .vmem, ⟨4, _⟩ => ⟨S1x1920, .bf16⟩
  | .local _ .vmem, ⟨5, _⟩ => ⟨S1x5x256x128, .bf16⟩
  | .local _ .vmem, ⟨6, _⟩ => ⟨S1x5x256x128, .bf16⟩
  | .local _ .vmem, ⟨7, _⟩ => ⟨S1x5x256x128, .bf16⟩
  | .local _ .vmem, ⟨8, _⟩ => ⟨S1x5x256x128, .bf16⟩
  | .local _ .vmem, ⟨9, _⟩ => ⟨S1x5x256x128, .bf16⟩
  | .local _ .vmem, ⟨10, _⟩ => ⟨S1x5x256x128, .bf16⟩
  | .local _ .vmem, ⟨11, _⟩ => ⟨S1x256x5120, .fp8e4m3⟩
  | .local _ .vmem, ⟨12, _⟩ => ⟨S1x256x5120, .fp8e4m3⟩
  | .local _ .vmem, ⟨13, _⟩ => ⟨S1x40x256, .f32⟩
  | .local _ .vmem, ⟨14, _⟩ => ⟨S1x40x256, .f32⟩
  | .local _ .vmem, ⟨15, _⟩ => ⟨S256x5120, .bf16⟩
  | _, _ => ⟨S8x3072x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v2_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![8, 12], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S5120x1920 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1920 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1920 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x5x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x5x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x5x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x5120 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x40x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S8x3072x5120 : Shape := ⟨3, ![8, 3072, 5120]⟩
abbrev S5120x1920 : Shape := ⟨2, ![5120, 1920]⟩
abbrev S1920 : Shape := ⟨1, ![1920]⟩
abbrev S8x3072x40x128 : Shape := ⟨4, ![8, 3072, 40, 128]⟩
abbrev S_ : Shape := ⟨0, ![]⟩
abbrev S8x3072x40 : Shape := ⟨3, ![8, 3072, 40]⟩
abbrev S254 : Shape := ⟨1, ![254]⟩
abbrev S8x3072x40x1 : Shape := ⟨4, ![8, 3072, 40, 1]⟩
abbrev S1x1x1x254 : Shape := ⟨4, ![1, 1, 1, 254]⟩
abbrev S8x3072x40x254 : Shape := ⟨4, ![8, 3072, 40, 254]⟩
abbrev S8x3072x1920 : Shape := ⟨3, ![8, 3072, 1920]⟩
abbrev S1x1x1920 : Shape := ⟨3, ![1, 1, 1920]⟩
abbrev S8x3072x15x128 : Shape := ⟨4, ![8, 3072, 15, 128]⟩
abbrev S8x15x3072x128 : Shape := ⟨4, ![8, 15, 3072, 128]⟩
abbrev S8x5x3072x128 : Shape := ⟨4, ![8, 5, 3072, 128]⟩
abbrev S8x40x3072 : Shape := ⟨3, ![8, 40, 3072]⟩

abbrev nBuf : Space → Nat
  | .hbm => 86
  | .vmem => 5
  | .smem => 0
  | _ => 0

abbrev bufTy : (tb : Table) → Fin (tcTables nBuf tb) → BufTy
  | .hbm, ⟨0, _⟩ => ⟨S8x3072x5120, .bf16⟩
  | .hbm, ⟨1, _⟩ => ⟨S5120x1920, .fp8e4m3⟩
  | .hbm, ⟨2, _⟩ => ⟨S1920, .f32⟩
  | .hbm, ⟨3, _⟩ => ⟨S1920, .bf16⟩
  | .hbm, ⟨4, _⟩ => ⟨S8x3072x5120, .f32⟩
  | .hbm, ⟨5, _⟩ => ⟨S8x3072x40x128, .f32⟩
  | .hbm, ⟨6, _⟩ => ⟨S8x3072x40x128, .f32⟩
  | .hbm, ⟨7, _⟩ => ⟨S_, .f32⟩
  | .hbm, ⟨8, _⟩ => ⟨S8x3072x40, .f32⟩
  | .hbm, ⟨9, _⟩ => ⟨S_, .f32⟩
  | .hbm, ⟨10, _⟩ => ⟨S8x3072x40, .f32⟩
  | .hbm, ⟨11, _⟩ => ⟨S8x3072x40, .f32⟩
  | .hbm, ⟨12, _⟩ => ⟨S254, .i32⟩
  | .hbm, ⟨13, _⟩ => ⟨S_, .i32⟩
  | .hbm, ⟨14, _⟩ => ⟨S254, .i32⟩
  | .hbm, ⟨15, _⟩ => ⟨S254, .i32⟩
  | .hbm, ⟨16, _⟩ => ⟨S254, .f32⟩
  | .hbm, ⟨17, _⟩ => ⟨S_, .f32⟩
  | .hbm, ⟨18, _⟩ => ⟨S254, .f32⟩
  | .hbm, ⟨19, _⟩ => ⟨S254, .f32⟩
  | .hbm, ⟨20, _⟩ => ⟨S8x3072x40x1, .f32⟩
  | .hbm, ⟨21, _⟩ => ⟨S1x1x1x254, .f32⟩
  | .hbm, ⟨22, _⟩ => ⟨S8x3072x40x254, .f32⟩
  | .hbm, ⟨23, _⟩ => ⟨S8x3072x40x254, .f32⟩
  | .hbm, ⟨24, _⟩ => ⟨S8x3072x40x254, .i1⟩
  | .hbm, ⟨25, _⟩ => ⟨S_, .f32⟩
  | .hbm, ⟨26, _⟩ => ⟨S_, .f32⟩
  | .hbm, ⟨27, _⟩ => ⟨S8x3072x40x254, .f32⟩
  | .hbm, ⟨28, _⟩ => ⟨S8x3072x40x254, .f32⟩
  | .hbm, ⟨29, _⟩ => ⟨S8x3072x40x254, .f32⟩
  | .hbm, ⟨30, _⟩ => ⟨S_, .f32⟩
  | .hbm, ⟨31, _⟩ => ⟨S8x3072x40, .f32⟩
  | .hbm, ⟨32, _⟩ => ⟨S_, .f32⟩
  | .hbm, ⟨33, _⟩ => ⟨S8x3072x40, .f32⟩
  | .hbm, ⟨34, _⟩ => ⟨S8x3072x40, .i1⟩
  | .hbm, ⟨35, _⟩ => ⟨S_, .f32⟩
  | .hbm, ⟨36, _⟩ => ⟨S8x3072x40, .f32⟩
  | .hbm, ⟨37, _⟩ => ⟨S8x3072x40, .i1⟩
  | .hbm, ⟨38, _⟩ => ⟨S8x3072x40, .i1⟩
  | .hbm, ⟨39, _⟩ => ⟨S_, .f32⟩
  | .hbm, ⟨40, _⟩ => ⟨S_, .f32⟩
  | .hbm, ⟨41, _⟩ => ⟨S8x3072x40, .f32⟩
  | .hbm, ⟨42, _⟩ => ⟨S8x3072x40, .f32⟩
  | .hbm, ⟨43, _⟩ => ⟨S_, .f32⟩
  | .hbm, ⟨44, _⟩ => ⟨S8x3072x40, .f32⟩
  | .hbm, ⟨45, _⟩ => ⟨S8x3072x40, .f32⟩
  | .hbm, ⟨46, _⟩ => ⟨S8x3072x40, .f32⟩
  | .hbm, ⟨47, _⟩ => ⟨S_, .f32⟩
  | .hbm, ⟨48, _⟩ => ⟨S8x3072x40, .f32⟩
  | .hbm, ⟨49, _⟩ => ⟨S8x3072x40, .f32⟩
  | .hbm, ⟨50, _⟩ => ⟨S8x3072x40x1, .f32⟩
  | .hbm, ⟨51, _⟩ => ⟨S8x3072x40x128, .f32⟩
  | .hbm, ⟨52, _⟩ => ⟨S8x3072x40x128, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S8x3072x40x128, .f32⟩
  | .hbm, ⟨57, _⟩ => ⟨S8x3072x40x128, .f32⟩
  | .hbm, ⟨58, _⟩ => ⟨S_, .f32⟩
  | .hbm, ⟨59, _⟩ => ⟨S8x3072x40x128, .f32⟩
  | .hbm, ⟨60, _⟩ => ⟨S8x3072x40x128, .f32⟩
  | .hbm, ⟨61, _⟩ => ⟨S8x3072x5120, .f32⟩
  | .hbm, ⟨62, _⟩ => ⟨S8x3072x5120, .fp8e4m3⟩
  | .hbm, ⟨63, _⟩ => ⟨S8x3072x5120, .bf16⟩
  | .hbm, ⟨64, _⟩ => ⟨S5120x1920, .bf16⟩
  | .hbm, ⟨65, _⟩ => ⟨S8x3072x40x128, .bf16⟩
  | .hbm, ⟨66, _⟩ => ⟨S8x3072x40, .bf16⟩
  | .hbm, ⟨67, _⟩ => ⟨S8x3072x40x1, .bf16⟩
  | .hbm, ⟨68, _⟩ => ⟨S8x3072x40x128, .bf16⟩
  | .hbm, ⟨69, _⟩ => ⟨S8x3072x40x128, .bf16⟩
  | .hbm, ⟨70, _⟩ => ⟨S8x3072x5120, .bf16⟩
  | .hbm, ⟨71, _⟩ => ⟨S8x3072x1920, .f32⟩
  | .hbm, ⟨72, _⟩ => ⟨S1x1x1920, .f32⟩
  | .hbm, ⟨73, _⟩ => ⟨S8x3072x1920, .f32⟩
  | .hbm, ⟨74, _⟩ => ⟨S8x3072x1920, .f32⟩
  | .hbm, ⟨75, _⟩ => ⟨S1920, .f32⟩
  | .hbm, ⟨76, _⟩ => ⟨S1x1x1920, .f32⟩
  | .hbm, ⟨77, _⟩ => ⟨S8x3072x1920, .f32⟩
  | .hbm, ⟨78, _⟩ => ⟨S8x3072x1920, .f32⟩
  | .hbm, ⟨79, _⟩ => ⟨S8x3072x1920, .bf16⟩
  | .hbm, ⟨80, _⟩ => ⟨S8x3072x15x128, .bf16⟩
  | .hbm, ⟨81, _⟩ => ⟨S8x15x3072x128, .bf16⟩
  | .hbm, ⟨82, _⟩ => ⟨S8x5x3072x128, .bf16⟩
  | .hbm, ⟨83, _⟩ => ⟨S8x5x3072x128, .bf16⟩
  | .hbm, ⟨84, _⟩ => ⟨S8x5x3072x128, .bf16⟩
  | .hbm, ⟨85, _⟩ => ⟨S8x40x3072, .f32⟩
  | .local _ .vmem, ⟨0, _⟩ => ⟨S8x3072x5120, .f32⟩
  | .local _ .vmem, ⟨1, _⟩ => ⟨S5120x1920, .fp8e4m3⟩
  | .local _ .vmem, ⟨2, _⟩ => ⟨S8x3072x5120, .fp8e4m3⟩
  | .local _ .vmem, ⟨3, _⟩ => ⟨S8x3072x5120, .bf16⟩
  | .local _ .vmem, ⟨4, _⟩ => ⟨S5120x1920, .bf16⟩
  | _, _ => ⟨S8x3072x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_call1_v0 : Ref sig .tc := ⟨.hbm, 40, rfl⟩
abbrev main_call1_v1 : Ref sig .tc := ⟨.hbm, 41, rfl⟩
abbrev main_v24 : Ref sig .tc := ⟨.hbm, 42, rfl⟩
abbrev main_cst_7 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_8 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_9 : Ref sig .tc := ⟨.hbm, 53, rfl⟩
abbrev main_cst_10 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_v33 : Ref sig .tc := ⟨.hbm, 60, rfl⟩
abbrev main_v34 : Ref sig .tc := ⟨.hbm, 61, rfl⟩
abbrev main_v35_0 : Ref sig .tc := ⟨.hbm, 62, rfl⟩
abbrev main_v35_1 : Ref sig .tc := ⟨.hbm, 63, rfl⟩
abbrev main_v35_2 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S8x3072x5120 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x1920 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x3072x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x3072x5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5120x1920 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.KBlock.lean ====
/- What one grid point of the kernel leaves in its five output blocks, as one function of the point's input blocks: the
   forty lane blocks and the fifteen heads are each one function at forty (fifteen) offsets. -/
module

public import proofs.«01_k».proof.Proof.Gen.KernelIdeal.Value

@[expose] public section

set_option maxRecDepth 16384

noncomputable section

namespace Cert.KernelIdeal.Gen

open Idealize.ShloMosaic Idealize.ShloMosaic.TcCoe Idealize.ShloMosaic.Tactic Idealize.SL.Sem
open Idealize.ShloMosaic.Pipeline (Dat)

variable {F : FTy → Type} [FloatOps F]

/-- Lane block `j` lies in the block of x, -/
theorem inb3 (j : Fin 40) : ∀ a, (![0, 0, 128 * j.val] : Fin 3 → ℕ) a + (![1, 256, 128] : Fin 3 → ℕ) a ≤ S1x256x5120.size a := by
  intro a; fin_cases a <;> simp [S1x256x5120] <;> omega

/-- and in the row scratch; -/
theorem inb2 (j : Fin 40) : ∀ a, (![0, 128 * j.val] : Fin 2 → ℕ) a + (![256, 128] : Fin 2 → ℕ) a ≤ S256x5120.size a := by
  intro a; fin_cases a <;> simp [S256x5120] <;> omega

/-- head `h` lies in a block of heads; -/
theorem inb4 (h : Fin 5) : ∀ a, (![0, h.val, 0, 0] : Fin 4 → ℕ) a + (![1, 1, 256, 128] : Fin 4 → ℕ) a ≤ S1x5x256x128.size a := by
  intro a; fin_cases a <;> simp [S1x5x256x128] <;> omega

/-- head `h` of output `g` lies in the projection. -/
theorem slices_head (g : Fin 3) (h : Fin 5) : S256x1920.Slices ![0, 128 * (5 * g.val + h.val)] S256x128 := by
  fin_cases g <;> fin_cases h <;> decide

/-- Lane block `j` of a row block: columns `128 j` to `128 j + 127` (with the unit batch axis). -/
abbrev rect3 (j : Fin 40) : Rect S1x256x5120 := Rect.unit ![0, 0, 128 * j.val] ![1, 256, 128] (inb3 j)

/-- Lane block `j` of the scratch. -/
abbrev rect2 (j : Fin 40) : Rect S256x5120 := Rect.unit ![0, 128 * j.val] ![256, 128] (inb2 j)

/-- Head `h` of an output block. -/
abbrev rect4 (h : Fin 5) : Rect S1x5x256x128 := Rect.unit ![0, h.val, 0, 0] ![1, 1, 256, 128] (inb4 h)

/-- Lane block `j` of x. -/
abbrev laneBlk (x0 : Vec F S1x256x5120 .bf16) (j : Fin 40) : Vec F S1x256x128 .bf16 := View.ld x0 (rect3 j)

/-- The codes of one lane block. -/
def codesBlk (x : Vec F S1x256x128 .bf16) : Vec F S1x256x128 .fp8e4m3 := k0_pay10 (k0_pay8 x)

/-- The codes of one lane block times its scales. -/
def xaBlk (x : Vec F S1x256x128 .bf16) : Vec F S256x128 .bf16 := k0_pay11 (k0_pay7 x) (k0_pay8 x)

/-- The store of lane block `j`'s codes. -/
def codesPiece (x0 : Vec F S1x256x5120 .bf16) (j : Fin 40) : View.Piece (Elt F) S1x256x5120 .fp8e4m3 :=
  ⟨rect3 j, codesBlk (laneBlk x0 j)⟩

/-- The store of lane block `j`'s rescaled codes in the scratch. -/
def xaPiece (x0 : Vec F S1x256x5120 .bf16) (j : Fin 40) : View.Piece (Elt F) S256x5120 .bf16 :=
  ⟨rect2 j, xaBlk (laneBlk x0 j)⟩

/-- The codes block: forty stores, the last first. -/
def codesOut (x0 : Vec F S1x256x5120 .bf16) : Vec F S1x256x5120 .fp8e4m3 :=
  View.canon ((List.finRange 40).map (codesPiece x0)).reverse

/-- The scratch, after its forty stores. -/
def xaOut (x0 : Vec F S1x256x5120 .bf16) : Vec F S256x5120 .bf16 :=
  View.canon ((List.finRange 40).map (xaPiece x0)).reverse

/-- One step of the table of scales: lane `j` takes lane block `j`'s scales. -/
def scaleStep (x0 : Vec F S1x256x5120 .bf16) (s : FVec F S256x128 .f32) (j : Fin 40) : FVec F S256x128 .f32 :=
  select (cmpi .eq (iota .tc S256x128 32 [1] iota_S256x128_d1_w32) (broadcast S256x128 (BitVec.ofNat 32 j.val)))
    (broadcastTo S256x128 (shapeCast S256x1 (k0_pay7 (laneBlk x0 j)) shapeCasts_S256x1_S256x1) broadcasts_S256x1_S256x128) s

/-- The table of scales: forty steps from zeros. -/
def scaleTable (x0 : Vec F S1x256x5120 .bf16) : FVec F S256x128 .f32 :=
  (List.finRange 40).foldl (scaleStep x0) k0_pay4

/-- The scale block: the table transposed, its first forty rows. -/
def scaleOut (x0 : Vec F S1x256x5120 .bf16) : Vec F S1x40x256 .f32 :=
  shapeCast S1x40x256 (extractStridedSlice S40x256 ![0, 0]
    (transpose S128x256 [1, 0] (scaleTable x0) transposes_S256x128_p1_0_S128x256) slices_S128x256_o0_0_S40x256)
    shapeCasts_S40x256_S1x40x256

/-- The projection of the row block. -/
def yBlk (x0 : Vec F S1x256x5120 .bf16) (w : Vec F S5120x1920 .fp8e4m3) (ws : Vec F S1x1920 .f32) (b : Vec F S1x1920 .bf16) :
    FVec F S256x1920 .bf16 := k0_pay347 (xaOut x0) w ws b

/-- The store of head `h` of output `g` (0 for q, 1 for k, 2 for v). -/
def headPiece (y : FVec F S256x1920 .bf16) (g : Fin 3) (h : Fin 5) : View.Piece (Elt F) S1x5x256x128 .bf16 :=
  ⟨rect4 h, shapeCast S1x1x256x128 (extractStridedSlice S256x128 ![0, 128 * (5 * g.val + h.val)] y (slices_head g h))
    shapeCasts_S256x128_S1x1x256x128⟩

/-- The block of output `g`: five stores, the last first. -/
def headsOut (y : FVec F S256x1920 .bf16) (g : Fin 3) : Vec F S1x5x256x128 .bf16 :=
  View.canon ((List.finRange 5).map (headPiece y g)).reverse

/-- Every index of a codes block lies in one lane block. -/
theorem cover_codes (x0 : Vec F S1x256x5120 .bf16) (y : S1x256x5120.Idx) :
    ∃ p ∈ ((List.finRange 40).map (codesPiece x0)).reverse, y ∈ p.1.set := by
  have h0 : (y 0).val < 1 := (y 0).isLt
  have h1 : (y 1).val < 256 := (y 1).isLt
  have h2 : (y 2).val < 5120 := (y 2).isLt
  refine ⟨codesPiece x0 ⟨(y 2).val / 128, by omega⟩, ?_, ?_⟩
  · simp only [List.mem_reverse, List.mem_map]
    exact ⟨_, List.mem_finRange _, rfl⟩
  · show y ∈ (rect3 _).set
    refine (Rect.mem_set_unit (s := S1x256x5120)).mpr fun a => ?_
    match a with
    | 0 => exact ⟨Nat.zero_le _, by show (y 0).val < 0 + 1; omega⟩
    | 1 => exact ⟨Nat.zero_le _, by show (y 1).val < 0 + 256; omega⟩
    | 2 => exact ⟨by show 128 * ((y 2).val / 128) ≤ (y 2).val; omega,
        by show (y 2).val < 128 * ((y 2).val / 128) + 128; omega⟩

/-- Every index of the scratch lies in one lane block. -/
theorem cover_xa (x0 : Vec F S1x256x5120 .bf16) (y : S256x5120.Idx) :
    ∃ p ∈ ((List.finRange 40).map (xaPiece x0)).reverse, y ∈ p.1.set := by
  have h0 : (y 0).val < 256 := (y 0).isLt
  have h1 : (y 1).val < 5120 := (y 1).isLt
  refine ⟨xaPiece x0 ⟨(y 1).val / 128, by omega⟩, ?_, ?_⟩
  · simp only [List.mem_reverse, List.mem_map]
    exact ⟨_, List.mem_finRange _, rfl⟩
  · show y ∈ (rect2 _).set
    refine (Rect.mem_set_unit (s := S256x5120)).mpr fun a => ?_
    match a with
    | 0 => exact ⟨Nat.zero_le _, by show (y 0).val < 0 + 256; omega⟩
    | 1 => exact ⟨by show 128 * ((y 1).val / 128) ≤ (y 1).val; omega,
        by show (y 1).val < 128 * ((y 1).val / 128) + 128; omega⟩

/-- Every index of an output block lies in one head. -/
theorem cover_heads (v : FVec F S256x1920 .bf16) (g : Fin 3) (y : S1x5x256x128.Idx) :
    ∃ p ∈ ((List.finRange 5).map (headPiece v g)).reverse, y ∈ p.1.set := by
  have h0 : (y 0).val < 1 := (y 0).isLt
  have h2 : (y 2).val < 256 := (y 2).isLt
  have h3 : (y 3).val < 128 := (y 3).isLt
  refine ⟨headPiece v g ⟨(y 1).val, (y 1).isLt⟩, ?_, ?_⟩
  · simp only [List.mem_reverse, List.mem_map]
    exact ⟨_, List.mem_finRange _, rfl⟩
  · show y ∈ (rect4 _).set
    refine (Rect.mem_set_unit (s := S1x5x256x128)).mpr fun a => ?_
    match a with
    | 0 => exact ⟨Nat.zero_le _, by show (y 0).val < 0 + 1; omega⟩
    | 1 => exact ⟨le_refl _, by show (y 1).val < (y 1).val + 1; omega⟩
    | 2 => exact ⟨Nat.zero_le _, by show (y 2).val < 0 + 256; omega⟩
    | 3 => exact ⟨Nat.zero_le _, by show (y 3).val < 0 + 128; omega⟩

/-- The scratch read back whole, after stores that are the forty. -/
theorem readback (x0 : Vec F S1x256x5120 .bf16) (L) (inb) (h : L = ((List.finRange 40).map (xaPiece x0)).reverse) :
    (View.whole cc0_scratch0).readCov L (Rect.unit (s := S256x5120) ![0, 0] S256x5120.size inb).toLoadRect = xaOut x0 := by
  subst h
  rw [View.readCov_eq_canon_ld _ _ _ (cover_xa x0)]
  exact View.ld_unit_zero (by funext a; fin_cases a <;> rfl) _ _

/-- A load of the whole weight is the weight. -/
theorem ld_w (x : Vec F S5120x1920 .fp8e4m3) (inb) :
    View.ld x (Rect.unit (s := S5120x1920) ![0, 0] S5120x1920.size inb) = x :=
  View.ld_unit_zero (by funext i; fin_cases i <;> rfl) _ _

/-- A load of a whole row is the row. -/
theorem ld_row {e : EltTy} (x : Vec F S1x1920 e) (inb) :
    View.ld x (Rect.unit (s := S1x1920) ![0, 0] S1x1920.size inb) = x :=
  View.ld_unit_zero (by funext i; fin_cases i <;> rfl) _ _

variable (m : (ℓ : Loc nD τ sig) → Buf (Elt F) ℓ)

/-- The projection at a grid point. -/
abbrev yAt (c : Dev nD) (t : Fin cfg0.N) : FVec F S256x1920 .bf16 :=
  yBlk (iblk m c 0 t) (iblk m c 1 t) (iblk m c 2 t) (iblk m c 3 t)

/-- What a grid point leaves in the block of q. -/
theorem out4_eq (c : Dev nD) (t : Fin cfg0.N) : (outsAt0 m c t).1 = headsOut (yAt m c t) 0 := by
  unfold outsAt0 out0_A_4
  dsimp only
  rw [View.read_writes_eq_canon _ _ _ (cover0_A_4 c _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread]
  rw [readback (iblk m c 0 t)]
  · rw [ld_w, ld_row, ld_row]
    unfold yAt yBlk
    generalize xaOut (iblk m c 0 t) = A
    rfl
  · rfl

/-- What a grid point leaves in the block of k. -/
theorem out5_eq (c : Dev nD) (t : Fin cfg0.N) : (outsAt0 m c t).2.1 = headsOut (yAt m c t) 1 := by
  unfold outsAt0 out0_A_5
  dsimp only
  rw [View.read_writes_eq_canon _ _ _ (cover0_A_5 c _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread]
  rw [readback (iblk m c 0 t)]
  · rw [ld_w, ld_row, ld_row]
    unfold yAt yBlk
    generalize xaOut (iblk m c 0 t) = A
    rfl
  · rfl

/-- What a grid point leaves in the block of v. -/
theorem out6_eq (c : Dev nD) (t : Fin cfg0.N) : (outsAt0 m c t).2.2.1 = headsOut (yAt m c t) 2 := by
  unfold outsAt0 out0_A_6
  dsimp only
  rw [View.read_writes_eq_canon _ _ _ (cover0_A_6 c _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread]
  rw [readback (iblk m c 0 t)]
  · rw [ld_w, ld_row, ld_row]
    unfold yAt yBlk
    generalize xaOut (iblk m c 0 t) = A
    rfl
  · rfl

/-- What a grid point leaves in the block of the codes. -/
theorem out7_eq (c : Dev nD) (t : Fin cfg0.N) : (outsAt0 m c t).2.2.2.1 = codesOut (iblk m c 0 t) := by
  unfold outsAt0 out0_A_7
  dsimp only
  rw [View.read_writes_eq_canon _ _ _ (cover0_A_7 c _ _ _ _ _ _ _ _ _ _ _ _ _ _ _ _ _ _ _ _ _ _ _ _ _)]
  unfold kernelRun0_A
  dsimp only
  sl_unfold_words
  simp only [View.readAt_eq_ld, (hs0_0 t).read_unread]
  rfl

/-- What a grid point leaves in the block of the scales. -/
theorem out8_eq (c : Dev nD) (t : Fin cfg0.N) : (outsAt0 m c t).2.2.2.2 = scaleOut (iblk m c 0 t) := by
  unfold outsAt0 out0_A_8
  dsimp only
  rw [View.read_writes_eq_canon _ _ _ (cover0_A_8 c _ _ _ _ _ _ _ _ _ _ _ _ _ _ _ _ _ _ _ _ _ _ _ _ _)]
  unfold kernelRun0_A
  dsimp only
  sl_unfold_words
  simp only [View.readAt_eq_ld, (hs0_0 t).read_unread]
  refine (View.canon_unit_zero (Val := Elt F) (S := S1x40x256) (off := ![0, 0, 0]) (by funext a; fin_cases a <;> rfl) _ _).trans ?_
  rfl

end Cert.KernelIdeal.Gen
-- ==== Proof.Exponent.lean ====
/- The scale of a block, computed in two ways, is one power of two. `t` stands for a block's largest magnitude times
   1/448. One way (`fieldOf`) takes the largest word `l · 2^23`, `l < 256`, that read as an f32 is at most `t`, and makes the
   scale and its inverse by integer arithmetic on that word. The other (`exponentOf`) takes the least exponent `k` with
   `t < 2^k` and raises two to it. -/
module

public import Idealize.ShloMosaic.PureOps.Ideal
public import Idealize.ShloMosaic.PureOps.Ideal.Laws
public import Idealize.ShloMosaic.PureOps.Reduce
public import Mathlib.Algebra.Order.Archimedean.Basic

@[expose] public section

noncomputable section

namespace Cert.Quant

open Idealize.ShloMosaic

/-- The 32-bit word `l · 2^23`: as an f32, sign 0, exponent field `l` (for `l < 256`), fraction 0. -/
def word (l : ℕ) : BitVec 32 := BitVec.ofNat 32 (l * 2 ^ 23)

/-- The word is nonnegative as a signed integer. -/
theorem word_toInt (l : Fin 256) : (word l).toInt = (l : ℤ) * 2 ^ 23 := by
  revert l; unfold word; decide +kernel

/-- A shift by 23 makes the word. -/
theorem shli_word (l : Fin 256) : IntOp.shli .vector (BitVec.ofNat 32 l) 23#32 = word l := by
  revert l; unfold word; decide +kernel

/-- Its sign bit is clear, -/
theorem word_sign (l : Fin 256) : ((word l).extractLsb' (8 + 23) 1 == 1#1) = false := by
  revert l; unfold word; decide +kernel

/-- its exponent field is `l`, -/
theorem word_exponent (l : Fin 256) : ((word l).extractLsb' 23 8).toNat = l := by
  revert l; unfold word; decide +kernel

/-- and its fraction field is zero. -/
theorem word_fraction (l : Fin 256) : ((word l).extractLsb' 0 23).toNat = 0 := by
  revert l; unfold word; decide +kernel

/-- The word with exponent field `l` in 1..254 is the f32 two to the `l - 127`. -/
theorem ofBits_word (l : ℕ) (h : 1 ≤ l) (h' : l ≤ 254) : Ideal.ofBits .f32 (word l) = (((2 : ℝ) ^ ((l : ℤ) - 127) : ℝ) : EReal) := by
  have hl : l < 256 := by omega
  have hs := word_sign ⟨l, hl⟩
  have he := word_exponent ⟨l, hl⟩
  have hf := word_fraction ⟨l, hl⟩
  simp only at hs he hf
  simp only [Ideal.ofBits, Ideal.ieee, hs, he, hf]
  rw [if_neg (by omega), if_neg (by omega)]
  congr 1
  have : (2 : ℝ) ^ ((l : ℤ) - 127) = 2 ^ (23 : ℤ) * 2 ^ ((l : ℤ) - (2 ^ (8 - 1) - 1) - (23 : ℕ)) := by
    rw [← zpow_add₀ (by norm_num)]; congr 1; norm_num
  rw [this]; norm_num

/-- The word 0 is the f32 zero. -/
theorem ofBits_word_zero : Ideal.ofBits .f32 (word 0) = 0 := by
  have : word 0 = 0#32 := by decide
  rw [this]; exact Ideal.ofBits_zero_f32

/-- The word with exponent field 255 is the f32 infinity. -/
theorem ofBits_word_top : Ideal.ofBits .f32 (word 255) = ⊤ := by
  have : word 255 = 0x7F800000#32 := by decide
  rw [this]; simp [Ideal.ofBits, Ideal.ieee]

/-- The signed maximum of a family of words is the word that bounds them all and is one of them. -/
theorem fold_maxsi {n : ℕ} (f : Fin n → BitVec 32) (M : BitVec 32) (hle : ∀ i, (f i).toInt ≤ M.toInt) (hex : ∃ i, f i = M) :
    Finset.univ.fold IntOp.maxsi 2147483648#32 f = M := by
  have key : ∀ x y : BitVec 32, (IntOp.maxsi x y).toInt = max x.toInt y.toInt := by
    intro x y
    unfold IntOp.maxsi
    by_cases h : y.toInt < x.toInt
    · simp [BitVec.slt, h, max_eq_left h.le]
    · simp [BitVec.slt, h, max_eq_right (not_lt.mp h)]
  have hom : (Finset.univ.fold IntOp.maxsi 2147483648#32 f).toInt
      = Finset.univ.fold max ((2147483648#32 : BitVec 32).toInt) fun i => (f i).toInt :=
    (Finset.fold_hom (op := IntOp.maxsi) (op' := max) (m := BitVec.toInt) key).symm
  apply BitVec.eq_of_toInt_eq
  rw [hom]
  apply le_antisymm
  · refine (Finset.fold_max_le _).mpr ⟨?_, fun i _ => hle i⟩
    have := BitVec.le_toInt M
    exact le_trans (by decide) this
  · obtain ⟨i, hi⟩ := hex
    exact (Finset.le_fold_max _).mpr (Or.inr ⟨i, Finset.mem_univ _, by rw [hi]⟩)

/-- The largest word `l · 2^23` that, read as an f32, is at most `t`; the word of one half where that is zero or the
    infinity. -/
def fieldOf (t : EReal) : BitVec 32 :=
  let w := Finset.univ.fold IntOp.maxsi 2147483648#32 fun l : Fin 256 =>
    if Ideal.ofBits .f32 (word l) ≤ t then word l else 0#32
  if w = 0#32 ∨ w = 2139095040#32 then 1056964608#32 else w

/-- The scale, from the word. -/
def scaleOf (t : EReal) : EReal := Ideal.ofBits .f32 (fieldOf t + 8388608#32)

/-- The inverse of the scale, from the word. -/
def inverseOf (t : EReal) : EReal := Ideal.ofBits .f32 (2122317824#32 - fieldOf t)

/-- The least exponent `k` in -126..127 with `t < 2^k` (128 if there is none); 0 where `t` is below the least normal
    f32 or infinite. -/
def exponentOf (t : EReal) : EReal :=
  if t < Ideal.ofBits .f32 0x00800000#32 ∨ t = ⊤ then 0
  else Finset.univ.fold min ⊤ fun k : Fin 254 =>
    if t < Ideal.pow 2 (((k : ℤ) - 126 : ℤ) : ℝ) then ((((k : ℤ) - 126 : ℤ) : ℝ) : EReal) else ((128 : ℝ) : EReal)

/-- An integer power of two. -/
theorem two_pow (k : ℤ) : Ideal.pow 2 ((k : ℝ) : EReal) = (((2 : ℝ) ^ k : ℝ) : EReal) := by
  show ((Real.rpow 2 (k : ℝ) : ℝ) : EReal) = _
  rw [Real.rpow_eq_pow, Real.rpow_intCast]

/-- The least normal f32. -/
theorem ofBits_tiny : Ideal.ofBits .f32 0x00800000#32 = (((2 : ℝ) ^ (-126 : ℤ) : ℝ) : EReal) := by
  have : (0x00800000#32 : BitVec 32) = word 1 := by decide
  rw [this, ofBits_word 1 le_rfl (by norm_num)]; norm_num

/-- Below the least normal f32 the word is that of one half. -/
theorem fieldOf_of_lt (t : EReal) (h : t < Ideal.ofBits .f32 0x00800000#32) : fieldOf t = word 126 := by
  have hw : (Finset.univ.fold IntOp.maxsi 2147483648#32 fun l : Fin 256 =>
      if Ideal.ofBits .f32 (word l) ≤ t then word l else 0#32) = 0#32 := by
    have hz : ∀ l : Fin 256, (if Ideal.ofBits .f32 (word l) ≤ t then word l else 0#32) = 0#32 := by
      intro l
      split_ifs with hl
      · by_cases h0 : (l : ℕ) = 0
        · rw [h0]; decide
        · exfalso
          refine absurd (lt_of_le_of_lt hl h) (not_lt.mpr ?_)
          rw [ofBits_tiny]
          by_cases h5 : (l : ℕ) = 255
          · rw [h5, ofBits_word_top]; exact le_top
          · rw [ofBits_word l (by omega) (by omega)]
            exact EReal.coe_le_coe_iff.mpr (zpow_le_zpow_right₀ (by norm_num) (by omega))
      · rfl
    exact fold_maxsi _ _ (fun l => by rw [hz]) ⟨0, hz 0⟩
  unfold fieldOf
  simp only [hw]
  decide

/-- At infinity the word is that of one half. -/
theorem fieldOf_top : fieldOf ⊤ = word 126 := by
  have hw : (Finset.univ.fold IntOp.maxsi 2147483648#32 fun l : Fin 256 =>
      if Ideal.ofBits .f32 (word l) ≤ ⊤ then word l else 0#32) = word 255 := by
    simp only [le_top, if_true]
    refine fold_maxsi _ _ (fun l => ?_) ⟨255, rfl⟩
    have h := word_toInt 255
    rw [word_toInt l, show word 255 = word ((255 : Fin 256) : ℕ) from rfl, h]
    have : (l : ℕ) ≤ 255 := by omega
    have : (l : ℤ) ≤ ((255 : Fin 256) : ℕ) := by exact_mod_cast this
    nlinarith
  unfold fieldOf
  simp only [hw]
  decide

/-- Where `2^n ≤ t < 2^(n+1)` with both powers normal, the word has exponent field `n + 127`. -/
theorem fieldOf_of_mem (t : ℝ) (n : ℕ) (h1 : 1 ≤ n) (h2 : n ≤ 253) (hlo : (2 : ℝ) ^ ((n : ℤ) - 127) ≤ t)
    (hhi : t < (2 : ℝ) ^ ((n : ℤ) - 126)) : fieldOf (t : EReal) = word n := by
  have hn : n < 256 := by omega
  have hw : (Finset.univ.fold IntOp.maxsi 2147483648#32 fun l : Fin 256 =>
      if Ideal.ofBits .f32 (word l) ≤ (t : EReal) then word l else 0#32) = word n := by
    refine fold_maxsi _ _ (fun l => ?_) ⟨⟨n, hn⟩, ?_⟩
    · have hwn := word_toInt ⟨n, hn⟩
      simp only at hwn
      split_ifs with hl
      · rw [hwn, word_toInt l]
        suffices (l : ℕ) ≤ n by
          have : (l : ℤ) ≤ n := by exact_mod_cast this
          nlinarith
        by_contra hc
        by_cases h5 : (l : ℕ) = 255
        · rw [h5, ofBits_word_top] at hl
          exact absurd (top_le_iff.mp hl) (EReal.coe_ne_top t)
        · rw [ofBits_word l (by omega) (by omega)] at hl
          have hl' := EReal.coe_le_coe_iff.mp hl
          have : (2 : ℝ) ^ ((n : ℤ) - 126) ≤ 2 ^ ((l : ℤ) - 127) := zpow_le_zpow_right₀ (by norm_num) (by omega)
          linarith
      · rw [hwn]; norm_num
    · rw [if_pos]
      rw [ofBits_word n h1 (by omega)]
      exact EReal.coe_le_coe_iff.mpr hlo
  have h0 : word n ≠ 0#32 := by
    intro h; have := word_toInt ⟨n, hn⟩; simp only [h] at this; norm_num at this; omega
  have h5 : word n ≠ 2139095040#32 := by
    intro h; have := word_toInt ⟨n, hn⟩; simp only [h] at this
    have e : (2139095040#32 : BitVec 32).toInt = 255 * 2 ^ 23 := by decide
    rw [e] at this
    have : (n : ℤ) = 255 := by linarith
    omega
  unfold fieldOf
  simp only [hw]
  rw [if_neg (by simp [h0, h5])]

/-- Adding 2^23 to a word gives the next word. -/
theorem word_add_one (l : Fin 256) : word l + 8388608#32 = word (l + 1) := by
  revert l; unfold word; decide +kernel

/-- Taking a word from the word 253 gives the word of the difference. -/
theorem sub_word (l : Fin 254) : 2122317824#32 - word l = word (253 - l) := by
  revert l; unfold word; decide +kernel

/-- The least exponent, where `2^n ≤ t < 2^(n+1)` with both powers normal. -/
theorem exponentOf_of_mem (t : ℝ) (n : ℤ) (h1 : -126 ≤ n) (h2 : n ≤ 126) (hlo : (2 : ℝ) ^ n ≤ t) (hhi : t < (2 : ℝ) ^ (n + 1)) :
    exponentOf (t : EReal) = (((n + 1 : ℤ) : ℝ) : EReal) := by
  unfold exponentOf
  rw [if_neg]
  · apply le_antisymm
    · refine (Finset.fold_min_le _).mpr (Or.inr ⟨⟨(n + 127).toNat, by omega⟩, Finset.mem_univ _, ?_⟩)
      have e : (((n + 127).toNat : ℕ) : ℤ) - 126 = n + 1 := by omega
      simp only [e, two_pow]
      rw [if_pos (EReal.coe_lt_coe_iff.mpr hhi)]
    · refine (Finset.le_fold_min _).mpr ⟨le_top, fun k _ => ?_⟩
      split_ifs with hk
      · rw [two_pow] at hk
        have hk' := EReal.coe_lt_coe_iff.mp hk
        refine EReal.coe_le_coe_iff.mpr ?_
        have : n < (k : ℤ) - 126 := (zpow_lt_zpow_iff_right₀ (by norm_num : (1 : ℝ) < 2)).mp (lt_of_le_of_lt hlo hk')
        exact_mod_cast this
      · refine EReal.coe_le_coe_iff.mpr ?_
        have : n + 1 ≤ (128 : ℤ) := by omega
        exact_mod_cast this
  · rw [not_or, not_lt, ofBits_tiny]
    exact ⟨EReal.coe_le_coe_iff.mpr (le_trans (zpow_le_zpow_right₀ (by norm_num) h1) hlo), EReal.coe_ne_top t⟩

/-- Where the word is that of one half and the exponent is zero, both scales are one. -/
theorem scale_one (t : EReal) (hf : fieldOf t = word 126) (he : exponentOf t = 0) :
    scaleOf t = Ideal.pow 2 (exponentOf t) ∧ inverseOf t = Ideal.pow 2 (-exponentOf t) := by
  have e : exponentOf t = (((0 : ℤ) : ℝ) : EReal) := by rw [he]; norm_num
  have e' : -exponentOf t = (((0 : ℤ) : ℝ) : EReal) := by rw [e]; norm_num
  unfold scaleOf inverseOf
  rw [e', e, two_pow, hf]
  have w1 : word 126 + 8388608#32 = word 127 := by decide
  have w2 : 2122317824#32 - word 126 = word 127 := by decide
  rw [w1, w2, ofBits_word 127 (by norm_num) (by norm_num)]
  norm_num

/-- Both scales agree at infinity, as do their inverses. -/
theorem scale_eq_top : scaleOf ⊤ = Ideal.pow 2 (exponentOf ⊤) ∧ inverseOf ⊤ = Ideal.pow 2 (-exponentOf ⊤) :=
  scale_one ⊤ fieldOf_top (by unfold exponentOf; rw [if_pos (Or.inr rfl)])

/-- Both scales agree for every `t` below `2^126`, as do their inverses. -/
theorem scale_eq (t : EReal) (h : t < (((2 : ℝ) ^ (126 : ℤ) : ℝ) : EReal)) :
    scaleOf t = Ideal.pow 2 (exponentOf t) ∧ inverseOf t = Ideal.pow 2 (-exponentOf t) := by
  by_cases ht : t < Ideal.ofBits .f32 0x00800000#32
  · exact scale_one t (fieldOf_of_lt t ht) (by unfold exponentOf; rw [if_pos (Or.inl ht)])
  · rw [not_lt, ofBits_tiny] at ht
    induction t with
    | bot => exact absurd (lt_of_lt_of_le (EReal.bot_lt_coe _) ht) (lt_irrefl _)
    | top => exact absurd (lt_trans h (EReal.coe_lt_top _)) (lt_irrefl _)
    | coe t =>
      have ht' := EReal.coe_le_coe_iff.mp ht
      have h' := EReal.coe_lt_coe_iff.mp h
      have hpos : 0 < t := lt_of_lt_of_le (by positivity) ht'
      obtain ⟨n, hlo, hhi⟩ := exists_mem_Ico_zpow hpos (by norm_num : (1 : ℝ) < 2)
      have h1 : -126 < n + 1 := (zpow_lt_zpow_iff_right₀ (by norm_num : (1 : ℝ) < 2)).mp (lt_of_le_of_lt ht' hhi)
      have h2 : n < 126 := (zpow_lt_zpow_iff_right₀ (by norm_num : (1 : ℝ) < 2)).mp (lt_of_le_of_lt hlo h')
      obtain ⟨l, hl⟩ : ∃ l : ℕ, (l : ℤ) = n + 127 := ⟨(n + 127).toNat, by omega⟩
      have hf : fieldOf (t : EReal) = word l := by
        refine fieldOf_of_mem t l (by omega) (by omega) ?_ ?_
        · rw [hl]; simpa using hlo
        · rw [hl, show n + 127 - 126 = n + 1 by ring]; exact hhi
      have he := exponentOf_of_mem t n (by omega) (by omega) hlo hhi
      have he' : -exponentOf (t : EReal) = (((-(n + 1) : ℤ) : ℝ) : EReal) := by
        rw [he, ← EReal.coe_neg]; norm_num
      have w1 := word_add_one ⟨l, by omega⟩
      have w2 := sub_word ⟨l, by omega⟩
      simp only at w1 w2
      unfold scaleOf inverseOf
      rw [he', he, two_pow, two_pow, hf, w1, w2, ofBits_word (l + 1) (by omega) (by omega),
        ofBits_word (253 - l) (by omega) (by omega)]
      constructor
      · congr 2; push_cast; omega
      · congr 2
        rw [Nat.cast_sub (by omega)]; push_cast; omega

end Cert.Quant

end
-- ==== Proof.Spec.lean ====
/- The problem's mathematics on one row of x, with the scale and its inverse as parameters: the kernel computes them from
   a word, the reference as powers of two. For x in the range of bf16 the two are one function (`scarange_of_pre`). -/
module

public import proofs.«01_k».proof.Proof.Exponent

@[expose] public section

noncomputable section

namespace Cert.Quant

open Idealize.ShloMosaic

/-- A lane block's largest magnitude, times 1/448. -/
def scaled (f : Fin 128 → EReal) : EReal :=
  Finset.univ.fold max (Ideal.ofBits .f32 0xFF800000#32) (fun k => max (f k) (-f k)) * Ideal.ofBits .f32 0x3B124925#32

/-- A value clipped to -448..448. -/
def clip (v : EReal) : EReal := min (Ideal.ofBits .f32 0x43E00000#32) (max (Ideal.ofBits .f32 0xC3E00000#32) v)

/-- The code of lane `l` of a lane block. -/
def code (inv : EReal → EReal) (f : Fin 128 → EReal) (l : Fin 128) : EReal := clip (f l * inv (scaled f))

/-- The lane block that holds column `n`. -/
def blkOf (n : Fin 5120) : Fin 40 := ⟨n.val / 128, by omega⟩

/-- Column `n`'s place in its lane block. -/
def laneOf (n : Fin 5120) : Fin 128 := ⟨n.val % 128, by omega⟩

/-- Column `k` of lane block `j`. -/
def colOf (j : Fin 40) (k : Fin 128) : Fin 5120 := ⟨128 * j.val + k.val, by omega⟩

/-- Lane block `j` of a row. -/
def lanes (row : Fin 5120 → EReal) (j : Fin 40) : Fin 128 → EReal := fun k => row (colOf j k)

/-- The code at column `n` of a row. -/
def codeAt (inv : EReal → EReal) (row : Fin 5120 → EReal) (n : Fin 5120) : EReal :=
  code inv (lanes row (blkOf n)) (laneOf n)

/-- The scale of lane block `j` of a row. -/
def scaleAt (sc : EReal → EReal) (row : Fin 5120 → EReal) (j : Fin 40) : EReal := sc (scaled (lanes row j))

/-- The code at column `n` times its scale. -/
def xaAt (sc inv : EReal → EReal) (row : Fin 5120 → EReal) (n : Fin 5120) : EReal :=
  codeAt inv row n * scaleAt sc row (blkOf n)

/-- Column `n` of a row's projection. -/
def projAt (sc inv : EReal → EReal) (row : Fin 5120 → EReal) (w : Fin 5120 → Fin 1920 → EReal) (ws b : Fin 1920 → EReal)
    (n : Fin 1920) : EReal := (∑ k, xaAt sc inv row k * w k n) * ws n + b n

/-- Column `d` of head `h` of output `g` (0 for q, 1 for k, 2 for v). -/
def headCol (g : Fin 3) (h : Fin 5) (d : Fin 128) : Fin 1920 := ⟨128 * (5 * g.val + h.val) + d.val, by omega⟩

/-- Column `k` of block `j` lies in block `j`, -/
theorem blkOf_colOf (j : Fin 40) (k : Fin 128) : blkOf (colOf j k) = j := by
  apply Fin.ext; show (128 * j.val + k.val) / 128 = j.val; omega

/-- at place `k`, -/
theorem laneOf_colOf (j : Fin 40) (k : Fin 128) : laneOf (colOf j k) = k := by
  apply Fin.ext; show (128 * j.val + k.val) % 128 = k.val; omega

/-- and every column is one of those. -/
theorem colOf_blkOf (n : Fin 5120) : colOf (blkOf n) (laneOf n) = n := by
  apply Fin.ext; show 128 * (n.val / 128) + n.val % 128 = n.val; omega

end Cert.Quant
-- ==== Proof.KRead.lean ====
/- The kernel's output blocks at an index, over the extended reals: each is the row function of Spec.lean, with the scale
   and its inverse made from the word. -/
module

public import proofs.«01_k».proof.Proof.KBlock
public import proofs.«01_k».proof.Proof.Spec
public import Idealize.ShloMosaic.Lib.Pointwise

@[expose] public section

set_option maxRecDepth 16384

noncomputable section

namespace Cert.KernelIdeal.Gen

open Idealize.ShloMosaic Idealize.ShloMosaic.TcCoe Idealize.ShloMosaic.Tactic Idealize.SL.Sem Cert.Quant

/-- A row's word. -/
theorem field_apply (x : Vec Ideal S1x256x128 .bf16) (i : Fin 256) :
    k0_pay6 (F := Ideal) x (ix2 i 0) = fieldOf (scaled fun k => x (ix3 0 i k)) := by
  pointwise [k0_pay6, k0_pay5, shli_word]
  unfold fieldOf scaled
  simp only [Scalar.select, IntOp.ori, IntOp.cmpi, FloatOps.absf]
  generalize Finset.fold IntOp.maxsi (2147483648#32) _ _ = w
  by_cases h0 : w = 0#32
  · simp [h0]
  · by_cases h1 : w = 2139095040#32
    · simp [h1]
    · have b0 : (w == 0#32) = false := beq_eq_false_iff_ne.mpr h0
      have b1 : (w == 2139095040#32) = false := beq_eq_false_iff_ne.mpr h1
      simp [h0, h1, b0, b1]

/-- A row's scale. -/
theorem scale_apply (x : Vec Ideal S1x256x128 .bf16) (i : Fin 256) :
    k0_pay7 (F := Ideal) x (ix2 i 0) = scaleOf (scaled fun k => x (ix3 0 i k)) := by
  unfold k0_pay7
  pointwise [field_apply]
  rfl

/-- The clipped value before the cast to fp8. -/
theorem clip_apply (x : Vec Ideal S1x256x128 .bf16) (i : Fin 256) (l : Fin 128) :
    k0_pay8 (F := Ideal) x (ix2 i l) = code inverseOf (fun k => x (ix3 0 i k)) l := by
  unfold k0_pay8
  pointwise [field_apply, k0_pay5]
  rfl

/-- A lane block's codes. -/
theorem codes_apply (x : Vec Ideal S1x256x128 .bf16) (i : Fin 256) (l : Fin 128) :
    codesBlk (F := Ideal) x (ix3 0 i l) = code inverseOf (fun k => x (ix3 0 i k)) l := by
  unfold codesBlk k0_pay10 k0_pay9
  pointwise [clip_apply]

/-- A lane block's codes times its scales. -/
theorem xa_apply (x : Vec Ideal S1x256x128 .bf16) (i : Fin 256) (l : Fin 128) :
    xaBlk (F := Ideal) x (ix2 i l)
      = code inverseOf (fun k => x (ix3 0 i k)) l * scaleOf (scaled fun k => x (ix3 0 i k)) := by
  unfold xaBlk k0_pay11 k0_pay9
  pointwise [clip_apply, scale_apply]

/-- One step of the table of scales at an index. -/
theorem step_apply (x0 : Vec Ideal S1x256x5120 .bf16) (s : FVec Ideal S256x128 .f32) (j : Fin 40) (i : Fin 256)
    (l : Fin 128) : scaleStep (F := Ideal) x0 s j (ix2 i l)
      = if l.val = j.val then scaleOf (scaled fun k => laneBlk x0 j (ix3 0 i k)) else s (ix2 i l) := by
  unfold scaleStep
  pointwise [scale_apply]
  have e : (BitVec.ofNat 32 l.val = BitVec.ofNat 32 j.val) ↔ l.val = j.val := by
    rw [← BitVec.toNat_inj, BitVec.toNat_ofNat, BitVec.toNat_ofNat, Nat.mod_eq_of_lt (by omega), Nat.mod_eq_of_lt (by omega)]
  simp only [Scalar.select, IntOp.cmpi]
  by_cases h : l.val = j.val
  · simp [h]
  · have b : (BitVec.ofNat 32 l.val == BitVec.ofNat 32 j.val) = false := beq_eq_false_iff_ne.mpr (mt e.mp h)
    simp [h, b]

/-- The projection at an index. -/
theorem proj_apply (xa : Vec Ideal S256x5120 .bf16) (w : Vec Ideal S5120x1920 .fp8e4m3) (ws : Vec Ideal S1x1920 .f32)
    (b : Vec Ideal S1x1920 .bf16) (i : Fin 256) (n : Fin 1920) :
    k0_pay347 (F := Ideal) xa w ws b (ix2 i n) = (∑ k, xa (ix2 i k) * w (ix2 k n)) * ws (ix2 0 n) + b (ix2 0 n) := by
  unfold k0_pay347
  pointwise [dot_S256x5120_S5120x1920_S256x1920_1_0_0_1_n_n]

/-- Row `i` of a row block. -/
abbrev rowOf (x0 : Vec Ideal S1x256x5120 .bf16) (i : Fin 256) : Fin 5120 → EReal := fun n => x0 (ix3 0 i n)

/-- An index with a leading axis of one. -/
theorem eq_unit3 {a b : ℕ} (y : (⟨3, ![1, a, b]⟩ : Shape).Idx) : y = ix3 (0 : Fin 1) (y 1 : Fin a) (y 2 : Fin b) := by
  funext a
  match a with
  | 0 => exact Fin.ext (by have h : (y 0).val < 1 := (y 0).isLt; show (y 0).val = 0; omega)
  | 1 => rfl
  | 2 => rfl

/-- An index with two leading axes of one. -/
theorem eq_unit4 {a b : ℕ} (y : (⟨4, ![1, 1, a, b]⟩ : Shape).Idx) :
    y = ix4 (0 : Fin 1) (0 : Fin 1) (y 2 : Fin a) (y 3 : Fin b) := by
  funext a
  match a with
  | 0 => exact Fin.ext (by have h : (y 0).val < 1 := (y 0).isLt; show (y 0).val = 0; omega)
  | 1 => exact Fin.ext (by have h : (y 1).val < 1 := (y 1).isLt; show (y 1).val = 0; omega)
  | 2 => rfl
  | 3 => rfl

/-- Where lane block `j` of a row block lies. -/
theorem emb3 (j : Fin 40) (i : Fin 256) (k : Fin 128) : (rect3 j).idx (ix3 (0 : Fin 1) i k) = ix3 (0 : Fin 1) i (colOf j k) := by
  funext a
  apply Fin.ext
  match a with
  | 0 => rfl
  | 1 => show 0 + 1 * i.val = i.val; omega
  | 2 => show 128 * j.val + 1 * k.val = 128 * j.val + k.val; omega

/-- Where lane block `j` of the scratch lies. -/
theorem emb2 (j : Fin 40) (i : Fin 256) (k : Fin 128) : (rect2 j).idx (ix2 i k) = ix2 i (colOf j k) := by
  funext a
  apply Fin.ext
  match a with
  | 0 => show 0 + 1 * i.val = i.val; omega
  | 1 => show 128 * j.val + 1 * k.val = 128 * j.val + k.val; omega

/-- Where head `h` of an output block lies. -/
theorem emb4 (h : Fin 5) (i : Fin 256) (d : Fin 128) : (rect4 h).idx (ix4 (0 : Fin 1) (0 : Fin 1) i d) = ix4 (0 : Fin 1) h i d := by
  funext a
  apply Fin.ext
  match a with
  | 0 => rfl
  | 1 => show h.val + 1 * 0 = h.val; omega
  | 2 => show 0 + 1 * i.val = i.val; omega
  | 3 => show 0 + 1 * d.val = d.val; omega

/-- A lane block at an index. -/
theorem lane_apply (x0 : Vec Ideal S1x256x5120 .bf16) (j : Fin 40) (i : Fin 256) :
    (fun k => laneBlk x0 j (ix3 0 i k)) = lanes (rowOf x0 i) j :=
  funext fun k => congrArg x0 (emb3 j i k)

/-- The codes block at an index. -/
theorem codesOut_apply (x0 : Vec Ideal S1x256x5120 .bf16) (i : Fin 256) (n : Fin 5120) :
    codesOut (F := Ideal) x0 (ix3 0 i n) = codeAt inverseOf (rowOf x0 i) n := by
  refine (View.canon_apply_of_pieces (fun y : S1x256x5120.Idx => codeAt inverseOf (rowOf x0 (y 1)) (y 2)) _ ?_ _
    (cover_codes x0 _)).trans rfl
  intro p hp
  simp only [List.mem_reverse, List.mem_map, List.mem_finRange, true_and] at hp
  obtain ⟨j, rfl⟩ := hp
  intro y
  obtain ⟨i, l, rfl⟩ : ∃ (i : Fin 256) (l : Fin 128), y = ix3 (0 : Fin 1) i l :=
    ⟨y 1, y 2, eq_unit3 y⟩
  have e : (rect3 j).emb (ix3 (0 : Fin 1) i l) = ix3 (0 : Fin 1) i (colOf j l) := emb3 j i l
  show codesBlk (laneBlk x0 j) (ix3 0 i l) = codeAt inverseOf (rowOf x0 ((rect3 j).emb (ix3 (0 : Fin 1) i l) 1)) ((rect3 j).emb (ix3 (0 : Fin 1) i l) 2)
  rw [e, codes_apply, lane_apply]
  show _ = code inverseOf (lanes (rowOf x0 i) (blkOf (colOf j l))) (laneOf (colOf j l))
  rw [blkOf_colOf, laneOf_colOf]

/-- The scratch at an index. -/
theorem xaOut_apply (x0 : Vec Ideal S1x256x5120 .bf16) (i : Fin 256) (n : Fin 5120) :
    xaOut (F := Ideal) x0 (ix2 i n) = xaAt scaleOf inverseOf (rowOf x0 i) n := by
  refine (View.canon_apply_of_pieces (fun y : S256x5120.Idx => xaAt scaleOf inverseOf (rowOf x0 (y 0)) (y 1)) _ ?_ _
    (cover_xa x0 _)).trans rfl
  intro p hp
  simp only [List.mem_reverse, List.mem_map, List.mem_finRange, true_and] at hp
  obtain ⟨j, rfl⟩ := hp
  intro y
  obtain ⟨i, l, rfl⟩ : ∃ (i : Fin 256) (l : Fin 128), y = ix2 i l :=
    ⟨y 0, y 1, eq_ix2 (n0 := 256) (n1 := 128) y⟩
  have e : (rect2 j).emb (ix2 i l) = ix2 i (colOf j l) := emb2 j i l
  show xaBlk (laneBlk x0 j) (ix2 i l) = xaAt scaleOf inverseOf (rowOf x0 ((rect2 j).emb (ix2 i l) 0)) ((rect2 j).emb (ix2 i l) 1)
  rw [e, xa_apply, lane_apply]
  show _ = code inverseOf (lanes (rowOf x0 i) (blkOf (colOf j l))) (laneOf (colOf j l))
    * scaleOf (scaled (lanes (rowOf x0 i) (blkOf (colOf j l))))
  rw [blkOf_colOf, laneOf_colOf]

/-- The table of scales after the first steps: lane `l`, once passed, holds lane block `l`'s scale. -/
theorem scaleTable_apply (x0 : Vec Ideal S1x256x5120 .bf16) (i : Fin 256) (j : Fin 40) :
    scaleTable (F := Ideal) x0 (ix2 i ⟨j.val, by omega⟩) = scaleAt scaleOf (rowOf x0 i) j := by
  have key : ∀ (L : List (Fin 40)) (s : FVec Ideal S256x128 .f32), (j ∈ L ∨ s (ix2 i ⟨j.val, by omega⟩) = scaleAt scaleOf (rowOf x0 i) j) →
      L.foldl (scaleStep x0) s (ix2 i ⟨j.val, by omega⟩) = scaleAt scaleOf (rowOf x0 i) j := by
    intro L
    induction L with
    | nil => intro s h; exact h.resolve_left (List.not_mem_nil)
    | cons a L ih =>
      intro s h
      refine ih _ ?_
      rw [step_apply, lane_apply]
      by_cases ha : j.val = a.val
      · right; rw [if_pos ha]; rw [Fin.ext ha]; rfl
      · rw [if_neg ha]
        refine h.imp_left fun hm => (List.mem_cons.mp hm).resolve_left fun e => ha (congrArg Fin.val e)
  exact key _ _ (Or.inl (List.mem_finRange j))

/-- The scale block at an index. -/
theorem scaleOut_apply (x0 : Vec Ideal S1x256x5120 .bf16) (j : Fin 40) (i : Fin 256) :
    scaleOut (F := Ideal) x0 (ix3 0 j i) = scaleAt scaleOf (rowOf x0 i) j := by
  rw [← scaleTable_apply]
  unfold scaleOut
  pointwise

/-- The projection of a row block at an index. -/
theorem yBlk_apply (x0 : Vec Ideal S1x256x5120 .bf16) (w : Vec Ideal S5120x1920 .fp8e4m3) (ws : Vec Ideal S1x1920 .f32)
    (b : Vec Ideal S1x1920 .bf16) (i : Fin 256) (n : Fin 1920) :
    yBlk (F := Ideal) x0 w ws b (ix2 i n)
      = projAt scaleOf inverseOf (rowOf x0 i) (fun k n => w (ix2 k n)) (fun n => ws (ix2 0 n)) (fun n => b (ix2 0 n)) n := by
  unfold yBlk projAt
  rw [proj_apply]
  simp only [xaOut_apply]

/-- A block of heads at an index. -/
theorem headsOut_apply (y : FVec Ideal S256x1920 .bf16) (g : Fin 3) (h : Fin 5) (i : Fin 256) (d : Fin 128) :
    headsOut (F := Ideal) y g (ix4 0 h i d) = y (ix2 i (headCol g h d)) := by
  refine (View.canon_apply_of_pieces (fun z : S1x5x256x128.Idx => y (ix2 (z 2) (headCol g (z 1) (z 3)))) _ ?_ _
    (cover_heads y g _)).trans rfl
  intro p hp
  simp only [List.mem_reverse, List.mem_map, List.mem_finRange, true_and] at hp
  obtain ⟨j, rfl⟩ := hp
  intro z
  obtain ⟨i, d, rfl⟩ : ∃ (i : Fin 256) (d : Fin 128), z = ix4 (0 : Fin 1) (0 : Fin 1) i d :=
    ⟨z 2, z 3, eq_unit4 z⟩
  have e : (rect4 j).emb (ix4 (0 : Fin 1) (0 : Fin 1) i d) = ix4 (0 : Fin 1) j i d := emb4 j i d
  show shapeCast S1x1x256x128 (extractStridedSlice S256x128 ![0, 128 * (5 * g.val + j.val)] y (slices_head g j))
    shapeCasts_S256x128_S1x1x256x128 (ix4 0 0 i d)
      = y (ix2 ((rect4 j).emb (ix4 (0 : Fin 1) (0 : Fin 1) i d) 2)
          (headCol g ((rect4 j).emb (ix4 (0 : Fin 1) (0 : Fin 1) i d) 1) ((rect4 j).emb (ix4 (0 : Fin 1) (0 : Fin 1) i d) 3)))
  rw [e]
  pointwise
  rfl

end Cert.KernelIdeal.Gen
-- ==== Proof.KArr.lean ====
/- The kernel's five arrays as functions of its arguments. -/
module

public import proofs.«01_k».proof.Proof.KRead
public import proofs.«01_k».proof.Proof.Gen.KernelIdeal.Value
public import Idealize.ShloMosaic.Lib.Pipeline.ValueKit.Geometry

@[expose] public section

set_option maxRecDepth 16384

noncomputable section

namespace Cert.KernelIdeal.Gen

open Idealize.ShloMosaic Idealize.ShloMosaic.TcCoe Idealize.ShloMosaic.Tactic Idealize.SL.Sem Cert.Quant
open Idealize.ShloMosaic.Pipeline (Dat Cfg Window)

variable (m : (ℓ : Loc nD τ sig) → Buf (Elt Ideal) ℓ) (c : Dev nD)

/-- x. -/
abbrev argX : Vec Ideal S8x3072x5120 .bf16 := m ((c : Thread nD τ).loc main_arg0)
/-- The weights. -/
abbrev argW : Vec Ideal S5120x1920 .fp8e4m3 := m ((c : Thread nD τ).loc main_arg1)
/-- The weights' scales. -/
abbrev argS : Vec Ideal S1920 .f32 := m ((c : Thread nD τ).loc main_arg2)
/-- The bias. -/
abbrev argB : Vec Ideal S1920 .bf16 := m ((c : Thread nD τ).loc main_arg3)

/-- Where each window's block lies: the batch is the first coordinate of the point, the run of 256 tokens the second. -/
theorem index0 : ∀ t : Fin cfg0.N, win0_0.index t = ![(grid0.coords t 0).val, (grid0.coords t 1).val, 0] :=
  (by decide +kernel : ∀ t : Fin grid0.N, _)
/-- The weights' block is the whole array, -/
theorem index1 : ∀ t : Fin cfg0.N, win0_1.index t = ![0, 0] := (by decide +kernel : ∀ t : Fin grid0.N, _)
/-- the scales' too, -/
theorem index2 : ∀ t : Fin cfg0.N, win0_2.index t = ![0, 0] := (by decide +kernel : ∀ t : Fin grid0.N, _)
/-- and the bias's. -/
theorem index3 : ∀ t : Fin cfg0.N, win0_3.index t = ![0, 0] := (by decide +kernel : ∀ t : Fin grid0.N, _)
/-- Where window 4's block lies. -/
theorem index4 : ∀ t : Fin cfg0.N, win0_4.index t = ![(grid0.coords t 0).val, 0, (grid0.coords t 1).val, 0] :=
  (by decide +kernel : ∀ t : Fin grid0.N, _)
/-- Where window 5's block lies. -/
theorem index5 : ∀ t : Fin cfg0.N, win0_5.index t = ![(grid0.coords t 0).val, 0, (grid0.coords t 1).val, 0] :=
  (by decide +kernel : ∀ t : Fin grid0.N, _)
/-- Where window 6's block lies. -/
theorem index6 : ∀ t : Fin cfg0.N, win0_6.index t = ![(grid0.coords t 0).val, 0, (grid0.coords t 1).val, 0] :=
  (by decide +kernel : ∀ t : Fin grid0.N, _)
/-- Where window 7's block lies. -/
theorem index7 : ∀ t : Fin cfg0.N, win0_7.index t = ![(grid0.coords t 0).val, (grid0.coords t 1).val, 0] :=
  (by decide +kernel : ∀ t : Fin grid0.N, _)
/-- Where window 8's block lies. -/
theorem index8 : ∀ t : Fin cfg0.N, win0_8.index t = ![(grid0.coords t 0).val, 0, (grid0.coords t 1).val] :=
  (by decide +kernel : ∀ t : Fin grid0.N, _)

/-- The point's batch. -/
def batch (t : Fin cfg0.N) : Fin 8 := grid0.coords t 0
/-- Token `i` of the point's run. -/
def token (t : Fin cfg0.N) (i : Fin 256) : Fin 3072 :=
  ⟨256 * (grid0.coords t 1).val + i.val, by
    have h : (grid0.coords t 1).val < 12 := (grid0.coords t 1).isLt
    omega⟩

/-- A row of the point's block of x is that token's row of x. -/
theorem row_blk (t : Fin cfg0.N) (i : Fin 256) :
    rowOf (iblk m c 0 t) i = fun n => argX m c (ix3 (batch t) (token t i) n) := by
  funext n
  unfold rowOf
  blk_simp [iblk]
  rw [V_main_arg0]
  refine congrArg (argX m c) ?_
  blk_ext [index0, batch, token]

/-- The point's block of the weights is the weights. -/
theorem w_blk (t : Fin cfg0.N) (k : Fin 5120) (n : Fin 1920) : iblk m c 1 t (ix2 k n) = argW m c (ix2 k n) := by
  blk_simp [iblk]
  rw [V_main_arg1]
  refine congrArg (argW m c) ?_
  blk_ext [index1]

/-- The host's reshape of the scales. -/
theorem V_main_v0 : V m c main_v0 = shapeCast S1x1920 (argS m c) shapeCasts_S1920_S1x1920 := by
  show StableHlo.after hostOps0 _ (Proc.devRef .tc main_v0) = _
  after_results
  rfl

/-- The host's reshape of the bias. -/
theorem V_main_v1 : V m c main_v1 = shapeCast S1x1920 (argB m c) shapeCasts_S1920_S1x1920 := by
  show StableHlo.after hostOps0 _ (Proc.devRef .tc main_v1) = _
  after_results
  rfl

/-- The point's block of the scales is the scales. -/
theorem s_blk (t : Fin cfg0.N) (n : Fin 1920) : iblk m c 2 t (ix2 0 n) = argS m c (ix1 n) := by
  blk_simp [iblk]
  rw [V_main_v0]
  rw [show (win0_2.blk t).view.emb (ix2 0 n) = (ix2 0 n : S1x1920.Idx) by blk_ext [index2]]
  pointwise

/-- The point's block of the bias is the bias. -/
theorem b_blk (t : Fin cfg0.N) (n : Fin 1920) : iblk m c 3 t (ix2 0 n) = argB m c (ix1 n) := by
  blk_simp [iblk]
  rw [V_main_v1]
  rw [show (win0_3.blk t).view.emb (ix2 0 n) = (ix2 0 n : S1x1920.Idx) by blk_ext [index3]]
  pointwise

/-- The projection at the point's row `i`. -/
theorem yAt_apply (t : Fin cfg0.N) (i : Fin 256) (n : Fin 1920) :
    yAt m c t (ix2 i n) = projAt scaleOf inverseOf (fun k => argX m c (ix3 (batch t) (token t i) k))
      (fun k n => argW m c (ix2 k n)) (fun n => argS m c (ix1 n)) (fun n => argB m c (ix1 n)) n := by
  unfold yAt
  rw [yBlk_apply, row_blk]
  simp only [w_blk, s_blk, b_blk]

/-- The kernel's codes. -/
theorem final_codes : (dats m 0 c).arrAt 7 cfg0.N = fun i : S8x3072x5120.Idx =>
    codeAt inverseOf (fun k => argX m c (ix3 (i 0) (i 1) k)) (i 2) := by
  refine (dats m 0 c).arrAt_eq_of_covers 7 _ (by decide +kernel) fun t hf y => ?_
  blk_simp
  obtain ⟨i, n, rfl⟩ : ∃ (i : Fin 256) (n : Fin 5120), y = (ix3 0 i n : S1x256x5120.Idx) := ⟨_, _, eq_unit3 y⟩
  rw [after0_7, out7_eq, codesOut_apply, row_blk]
  rw [show (win0_7.blk t).view.emb (ix3 0 i n) = (ix3 (batch t) (token t i) n : S8x3072x5120.Idx) by
    blk_ext [index7, batch, token]]
  rfl

/-- The kernel's scales. -/
theorem final_scale : (dats m 0 c).arrAt 8 cfg0.N = fun i : S8x40x3072.Idx =>
    scaleAt scaleOf (fun k => argX m c (ix3 (i 0) (i 2) k)) (i 1) := by
  refine (dats m 0 c).arrAt_eq_of_covers 8 _ (by decide +kernel) fun t hf y => ?_
  blk_simp
  obtain ⟨j, i, rfl⟩ : ∃ (j : Fin 40) (i : Fin 256), y = (ix3 0 j i : S1x40x256.Idx) := ⟨_, _, eq_unit3 y⟩
  rw [after0_8, out8_eq, scaleOut_apply, row_blk]
  rw [show (win0_8.blk t).view.emb (ix3 0 j i) = (ix3 (batch t) j (token t i) : S8x40x3072.Idx) by
    blk_ext [index8, batch, token]]
  rfl

/-- Output `g` of the projection (0 for q, 1 for k, 2 for v), heads before tokens. -/
def headsArr (g : Fin 3) (i : S8x5x3072x128.Idx) : EReal :=
  projAt scaleOf inverseOf (fun k => argX m c (ix3 (i 0) (i 2) k)) (fun k n => argW m c (ix2 k n))
    (fun n => argS m c (ix1 n)) (fun n => argB m c (ix1 n)) (headCol g (i 1) (i 3))

/-- The point's block of output `g`. -/
theorem heads_blk (g : Fin 3) (t : Fin cfg0.N) (h : Fin 5) (i : Fin 256) (d : Fin 128) :
    headsOut (yAt m c t) g (ix4 0 h i d) = headsArr m c g (ix4 (batch t) h (token t i) d) := by
  rw [headsOut_apply, yAt_apply]
  rfl

/-- An index of a block of heads. -/
theorem eq_heads {a b d : ℕ} (y : (⟨4, ![1, a, b, d]⟩ : Shape).Idx) :
    y = ix4 (0 : Fin 1) (y 1 : Fin a) (y 2 : Fin b) (y 3 : Fin d) := by
  funext a
  match a with
  | 0 => exact Fin.ext (by have h : (y 0).val < 1 := (y 0).isLt; show (y 0).val = 0; omega)
  | 1 => rfl
  | 2 => rfl
  | 3 => rfl

/-- The kernel's q. -/
theorem final_q : (dats m 0 c).arrAt 4 cfg0.N = headsArr m c 0 := by
  refine (dats m 0 c).arrAt_eq_of_covers 4 _ (by decide +kernel) fun t hf y => ?_
  blk_simp
  obtain ⟨h, i, d, rfl⟩ : ∃ (h : Fin 5) (i : Fin 256) (d : Fin 128), y = (ix4 0 h i d : S1x5x256x128.Idx) :=
    ⟨_, _, _, eq_heads y⟩
  rw [after0_4, out4_eq, heads_blk]
  rw [show (win0_4.blk t).view.emb (ix4 0 h i d) = (ix4 (batch t) h (token t i) d : S8x5x3072x128.Idx) by
    blk_ext [index4, batch, token]]

/-- The kernel's k. -/
theorem final_k : (dats m 0 c).arrAt 5 cfg0.N = headsArr m c 1 := by
  refine (dats m 0 c).arrAt_eq_of_covers 5 _ (by decide +kernel) fun t hf y => ?_
  blk_simp
  obtain ⟨h, i, d, rfl⟩ : ∃ (h : Fin 5) (i : Fin 256) (d : Fin 128), y = (ix4 0 h i d : S1x5x256x128.Idx) :=
    ⟨_, _, _, eq_heads y⟩
  rw [after0_5, out5_eq, heads_blk]
  rw [show (win0_5.blk t).view.emb (ix4 0 h i d) = (ix4 (batch t) h (token t i) d : S8x5x3072x128.Idx) by
    blk_ext [index5, batch, token]]

/-- The kernel's v. -/
theorem final_v : (dats m 0 c).arrAt 6 cfg0.N = headsArr m c 2 := by
  refine (dats m 0 c).arrAt_eq_of_covers 6 _ (by decide +kernel) fun t hf y => ?_
  blk_simp
  obtain ⟨h, i, d, rfl⟩ : ∃ (h : Fin 5) (i : Fin 256) (d : Fin 128), y = (ix4 0 h i d : S1x5x256x128.Idx) :=
    ⟨_, _, _, eq_heads y⟩
  rw [after0_6, out6_eq, heads_blk]
  rw [show (win0_6.blk t).view.emb (ix4 0 h i d) = (ix4 (batch t) h (token t i) d : S8x5x3072x128.Idx) by
    blk_ext [index6, batch, token]]

end Cert.KernelIdeal.Gen

end
-- ==== Proof.RHost.lean ====
/- The reference's host operations before its region: what the buffers they write hold, as functions of x, and those
   functions at an index. -/
module

public import proofs.«01_k».proof.Proof.Spec
public import proofs.«01_k».proof.Proof.Gen.ReferenceIdeal.Frame
public import Idealize.ShloMosaic.Lib.StableHlo.ReadAt
public import Idealize.ShloMosaic.Lib.Pointwise

@[expose] public section

set_option maxRecDepth 16384

noncomputable section

namespace Cert.ReferenceIdeal.Gen

open Idealize.ShloMosaic Idealize.ShloMosaic.TcCoe Idealize.ShloMosaic.Tactic Idealize.SL.Sem Cert.Quant

/-- x by lane blocks. -/
def refX (x : Vec Ideal S8x3072x5120 .bf16) : FVec Ideal S8x3072x40x128 .f32 :=
  shapeCast S8x3072x40x128 (extf .f32 x bitsLt_bf16_f32) shapeCasts_S8x3072x5120_S8x3072x40x128

/-- Each lane block's largest magnitude, times 1/448. -/
def refT (x : Vec Ideal S8x3072x5120 .bf16) : FVec Ideal S8x3072x40 .f32 :=
  mulf (Host.reduce FloatOps.maximumf (Host.absf (refX x)) (constant S_ .f32 0xFF800000#32)
      reducesTo_S8x3072x40x128_S8x3072x40_d3 h_S_)
    (broadcastInDim S8x3072x40 ![] bcast_S_S8x3072x40 (constant S_ .f32 0x3B124925#32))

/-- The exponents tried, -126..127. -/
def refK : FVec Ideal S254 .f32 :=
  sitofp .f32 (addi (broadcastInDim S254 ![] bcast_S_S254 (constantI S_ 32 4294967170#32)) (iotaInDim S254 32 0))

/-- Each exponent tried whose power is above, and 128 for the others. -/
def refTried (t : FVec Ideal S8x3072x40 .f32) : FVec Ideal S8x3072x40x254 .f32 :=
  select
    (cmpf .ogt
      (broadcastInDim S8x3072x40x254 ![0, 1, 2, 3] bcast_S1x1x1x254_S8x3072x40x254_0_1_2_3
        (broadcastInDim S1x1x1x254 ![3] bcast_S254_S1x1x1x254_3
          (Host.powf (broadcastInDim S254 ![] bcast_S_S254 (constant S_ .f32 0x40000000#32)) refK)))
      (broadcastInDim S8x3072x40x254 ![0, 1, 2, 3] bcast_S8x3072x40x1_S8x3072x40x254_0_1_2_3
        (broadcastInDim S8x3072x40x1 ![0, 1, 2] bcast_S8x3072x40_S8x3072x40x1_0_1_2 t)))
    (broadcastInDim S8x3072x40x254 ![3] bcast_S254_S8x3072x40x254_3 refK)
    (broadcastInDim S8x3072x40x254 ![] bcast_S_S8x3072x40x254 (constant S_ .f32 0x43000000#32))

/-- Each lane block's exponent. -/
def refE (t : FVec Ideal S8x3072x40 .f32) : FVec Ideal S8x3072x40 .f32 :=
  select
    (ori (cmpf .olt t (broadcastInDim S8x3072x40 ![] bcast_S_S8x3072x40 (constant S_ .f32 0x00800000#32)))
      (cmpf .oeq t (broadcastInDim S8x3072x40 ![] bcast_S_S8x3072x40 (constant S_ .f32 0x7F800000#32))))
    (broadcastInDim S8x3072x40 ![] bcast_S_S8x3072x40 (constant S_ .f32 0x00000000#32))
    (Host.reduce FloatOps.minimumf (refTried t) (constant S_ .f32 0x7F800000#32) reducesTo_S8x3072x40x254_S8x3072x40_d3 h_S_)

/-- The powers of two at some exponents. -/
def refPow (e : FVec Ideal S8x3072x40 .f32) : FVec Ideal S8x3072x40 .f32 :=
  Host.powf (broadcastInDim S8x3072x40 ![] bcast_S_S8x3072x40 (constant S_ .f32 0x40000000#32)) e

/-- The clipped values, by columns. -/
def refClip (x : Vec Ideal S8x3072x5120 .bf16) : FVec Ideal S8x3072x5120 .f32 :=
  shapeCast S8x3072x5120
    (minimumf (broadcastInDim S8x3072x40x128 ![] bcast_S_S8x3072x40x128 (constant S_ .f32 0x43E00000#32))
      (maximumf (broadcastInDim S8x3072x40x128 ![] bcast_S_S8x3072x40x128 (constant S_ .f32 0xC3E00000#32))
        (mulf (refX x) (broadcastInDim S8x3072x40x128 ![0, 1, 2, 3] bcast_S8x3072x40x1_S8x3072x40x128_0_1_2_3
          (broadcastInDim S8x3072x40x1 ![0, 1, 2] bcast_S8x3072x40_S8x3072x40x1_0_1_2
            (refPow (Host.negf (refE (refT x)))))))))
    shapeCasts_S8x3072x40x128_S8x3072x5120

variable (m : (ℓ : Loc nD τ sig) → Buf (Elt Ideal) ℓ) (c : Dev nD)

/-- x. -/
abbrev argX : Vec Ideal S8x3072x5120 .bf16 := m ((c : Thread nD τ).loc main_arg0)

/-- The scales when the region is entered. -/
theorem V_main_v26 : V m c main_v26 = refPow (refE (refT (argX m c))) := by
  after_reads_simp
  simp -implicitDefEqProofs only [StableHlo.TRef.toBuf, StableHlo.TRef.ofBuf, cast_cast, cast_eq, id_eq]
  clean_types
  unfold refPow refE refTried refK refT refX argX
  rfl

/-- The clipped values when the region is entered. -/
theorem V_main_v34 : V m c main_v34 = refClip (argX m c) := by
  after_reads_simp
  simp -implicitDefEqProofs only [StableHlo.TRef.toBuf, StableHlo.TRef.ofBuf, cast_cast, cast_eq, id_eq]
  clean_types
  unfold refClip refPow refE refTried refK refT refX argX
  rfl

/-! ## At an index -/

/-- x by lane blocks. -/
theorem refX_apply (x : Vec Ideal S8x3072x5120 .bf16) (b : Fin 8) (s : Fin 3072) (j : Fin 40) (k : Fin 128) :
    refX x (ix4 b s j k) = x (ix3 b s (colOf j k)) := by
  have e : colOf j k = ⟨j.val * 128 + k.val, by omega⟩ :=
    Fin.ext (by show 128 * j.val + k.val = j.val * 128 + k.val; omega)
  rw [e]
  unfold refX
  pointwise

/-- The largest of a lane block. -/
theorem reduce_max_apply (y : FVec Ideal S8x3072x40x128 .f32) (b : Fin 8) (s : Fin 3072) (j : Fin 40) :
    Host.reduce FloatOps.maximumf y (constant S_ .f32 0xFF800000#32) reducesTo_S8x3072x40x128_S8x3072x40_d3 h_S_ (ix3 b s j)
      = Finset.univ.fold max (Ideal.ofBits .f32 0xFF800000#32) (fun k => y (ix4 b s j k)) := by
  pointwise

/-- A product with 1/448. -/
theorem mul_apply (a : FVec Ideal S8x3072x40 .f32) (b : Fin 8) (s : Fin 3072) (j : Fin 40) :
    mulf a (broadcastInDim S8x3072x40 ![] bcast_S_S8x3072x40 (constant S_ .f32 0x3B124925#32)) (ix3 b s j)
      = a (ix3 b s j) * Ideal.ofBits .f32 0x3B124925#32 := by
  pointwise

/-- A magnitude. -/
theorem abs_apply (y : FVec Ideal S8x3072x40x128 .f32) (i : S8x3072x40x128.Idx) : Host.absf y i = max (y i) (-y i) := by
  pointwise
  simp only [FloatOps.absf]

/-- A lane block's largest magnitude, times 1/448. -/
theorem refT_apply (x : Vec Ideal S8x3072x5120 .bf16) (b : Fin 8) (s : Fin 3072) (j : Fin 40) :
    refT x (ix3 b s j) = scaled (lanes (fun n => x (ix3 b s n)) j) := by
  unfold refT scaled lanes
  rw [mul_apply, reduce_max_apply]
  simp only [abs_apply, refX_apply]

/-- This word is the f32 two. -/
theorem ofBits_two : Ideal.ofBits .f32 0x40000000#32 = 2 := by
  have : (0x40000000#32 : BitVec 32) = word 128 := by decide
  rw [this, ofBits_word 128 (by norm_num) (by norm_num)]; norm_num; rfl

/-- This word is the f32 128. -/
theorem ofBits_128 : Ideal.ofBits .f32 0x43000000#32 = ((128 : ℝ) : EReal) := by
  have : (0x43000000#32 : BitVec 32) = word 134 := by decide
  rw [this, ofBits_word 134 (by norm_num) (by norm_num)]; norm_num

/-- This word is the f32 infinity. -/
theorem ofBits_top : Ideal.ofBits .f32 0x7F800000#32 = ⊤ := by
  have : (0x7F800000#32 : BitVec 32) = word 255 := by decide
  rw [this, ofBits_word_top]

/-- The exponent tried at place `k`. -/
theorem sitofp_tried (k : Fin 254) :
    FloatOps.sitofp (F := Ideal) .f32 (IntOp.addi (4294967170#32) (BitVec.ofNat 32 k)) = ((((k : ℤ) - 126 : ℤ) : ℝ) : EReal) := by
  have e : ∀ k : Fin 254, (IntOp.addi (4294967170#32) (BitVec.ofNat 32 k)).toInt = (k : ℤ) - 126 := by decide +kernel
  show (((IntOp.addi (4294967170#32) (BitVec.ofNat 32 k)).toInt : ℝ) : EReal) = _
  rw [e]

/-- A selection by one condition or another. -/
theorem select_or (p q : Prop) [Decidable p] [Decidable q] (a b : EReal) :
    Scalar.select (IntOp.ori (BitVec.ofBool (decide p)) (BitVec.ofBool (decide q))) a b = if p ∨ q then a else b := by
  by_cases hp : p <;> by_cases hq : q <;> simp [Scalar.select, IntOp.ori, hp, hq]

/-- A lane block's exponent. -/
theorem refE_apply (t : FVec Ideal S8x3072x40 .f32) (b : Fin 8) (s : Fin 3072) (j : Fin 40) :
    refE t (ix3 b s j) = exponentOf (t (ix3 b s j)) := by
  suffices h : ∀ z, z = exponentOf (t (ix3 b s j)) → refE t (ix3 b s j) = z from h _ rfl
  intro z hz
  unfold refE refTried refK
  pointwise
  rw [hz]
  unfold exponentOf
  simp only [sitofp_tried, ofBits_two, ofBits_128, ofBits_top, select_or]

/-- A power of two. -/
theorem refPow_apply (e : FVec Ideal S8x3072x40 .f32) (b : Fin 8) (s : Fin 3072) (j : Fin 40) :
    refPow e (ix3 b s j) = Ideal.pow 2 (e (ix3 b s j)) := by
  rw [← ofBits_two]
  unfold refPow
  pointwise

/-- The clipped value of a lane. -/
theorem clip_apply (y : FVec Ideal S8x3072x40x128 .f32) (p : FVec Ideal S8x3072x40 .f32) (b : Fin 8) (s : Fin 3072) (j : Fin 40)
    (k : Fin 128) :
    minimumf (broadcastInDim S8x3072x40x128 ![] bcast_S_S8x3072x40x128 (constant S_ .f32 0x43E00000#32))
      (maximumf (broadcastInDim S8x3072x40x128 ![] bcast_S_S8x3072x40x128 (constant S_ .f32 0xC3E00000#32))
        (mulf y (broadcastInDim S8x3072x40x128 ![0, 1, 2, 3] bcast_S8x3072x40x1_S8x3072x40x128_0_1_2_3
          (broadcastInDim S8x3072x40x1 ![0, 1, 2] bcast_S8x3072x40_S8x3072x40x1_0_1_2 p)))) (ix4 b s j k)
      = clip (y (ix4 b s j k) * p (ix3 b s j)) := by
  unfold clip
  pointwise

/-- A vector over lane blocks, by columns. -/
theorem columns_apply {φ : FTy} (y : FVec Ideal S8x3072x40x128 φ) (b : Fin 8) (s : Fin 3072) (n : Fin 5120) :
    shapeCast S8x3072x5120 y shapeCasts_S8x3072x40x128_S8x3072x5120 (ix3 b s n) = y (ix4 b s (blkOf n) (laneOf n)) := by
  unfold blkOf laneOf
  pointwise

/-- A negative. -/
theorem neg_apply (e : FVec Ideal S8x3072x40 .f32) (i : S8x3072x40.Idx) : Host.negf e i = -e i := by
  pointwise

/-- The clipped value at a column. -/
theorem refClip_apply (x : Vec Ideal S8x3072x5120 .bf16) (b : Fin 8) (s : Fin 3072) (n : Fin 5120) :
    refClip x (ix3 b s n)
      = codeAt (fun t => Ideal.pow 2 (-exponentOf t)) (fun n => x (ix3 b s n)) n := by
  unfold refClip codeAt code
  rw [columns_apply, clip_apply, refX_apply, refPow_apply, neg_apply, refE_apply, refT_apply]
  rfl

end Cert.ReferenceIdeal.Gen

end
-- ==== Proof.RTail.lean ====
/- The reference's host operations after its region: what its results hold, as functions of what the buffers hold when
   the region ends, and those functions at an index. -/
module

public import proofs.«01_k».proof.Proof.RHost

@[expose] public section

set_option maxRecDepth 16384

noncomputable section

namespace Cert.ReferenceIdeal.Gen

open Idealize.ShloMosaic Idealize.ShloMosaic.TcCoe Idealize.ShloMosaic.Tactic Idealize.SL.Sem Cert.Quant

/-- The codes times their scales. -/
def refXa (codes : FVec Ideal S8x3072x5120 .bf16) (scale : FVec Ideal S8x3072x40 .f32) : FVec Ideal S8x3072x5120 .bf16 :=
  shapeCast S8x3072x5120
    (mulf (shapeCast S8x3072x40x128 codes shapeCasts_S8x3072x5120_S8x3072x40x128)
      (broadcastInDim S8x3072x40x128 ![0, 1, 2, 3] bcast_S8x3072x40x1_S8x3072x40x128_0_1_2_3
        (broadcastInDim S8x3072x40x1 ![0, 1, 2] bcast_S8x3072x40_S8x3072x40x1_0_1_2
          (truncf .bf16 scale bitsLt_bf16_f32))))
    shapeCasts_S8x3072x40x128_S8x3072x5120

/-- The projection. -/
def refY (xa : FVec Ideal S8x3072x5120 .bf16) (w : FVec Ideal S5120x1920 .bf16) (ws : FVec Ideal S1920 .f32)
    (b : FVec Ideal S1920 .bf16) : FVec Ideal S8x3072x1920 .bf16 :=
  truncf .bf16
    (addf
      (mulf (Host.dotGeneral dot_S8x3072x5120_S5120x1920_S8x3072x1920_2_0_01_1_n_n none xa w)
        (broadcastInDim S8x3072x1920 ![0, 1, 2] bcast_S1x1x1920_S8x3072x1920_0_1_2
          (broadcastInDim S1x1x1920 ![2] bcast_S1920_S1x1x1920_2 ws)))
      (broadcastInDim S8x3072x1920 ![0, 1, 2] bcast_S1x1x1920_S8x3072x1920_0_1_2
        (broadcastInDim S1x1x1920 ![2] bcast_S1920_S1x1x1920_2 (extf .f32 b bitsLt_bf16_f32))))
    bitsLt_bf16_f32

/-- The projection by heads, heads before tokens. -/
def refHeads (y : FVec Ideal S8x3072x1920 .bf16) : FVec Ideal S8x15x3072x128 .bf16 :=
  transpose S8x15x3072x128 [0, 2, 1, 3] (shapeCast S8x3072x15x128 y shapeCasts_S8x3072x1920_S8x3072x15x128)
    transposes_S8x3072x15x128_S8x15x3072x128_0_2_1_3

/-- q. -/
def refQ (y : FVec Ideal S8x3072x1920 .bf16) : FVec Ideal S8x5x3072x128 .bf16 :=
  extractStridedSlice S8x5x3072x128 ![0, 0, 0, 0] (refHeads y) slices_S8x15x3072x128_S8x5x3072x128_0_0_0_0

/-- k. -/
def refKey (y : FVec Ideal S8x3072x1920 .bf16) : FVec Ideal S8x5x3072x128 .bf16 :=
  extractStridedSlice S8x5x3072x128 ![0, 5, 0, 0] (refHeads y) slices_S8x15x3072x128_S8x5x3072x128_0_5_0_0

/-- v. -/
def refV (y : FVec Ideal S8x3072x1920 .bf16) : FVec Ideal S8x5x3072x128 .bf16 :=
  extractStridedSlice S8x5x3072x128 ![0, 10, 0, 0] (refHeads y) slices_S8x15x3072x128_S8x5x3072x128_0_10_0_0

/-- The scales, lane blocks before tokens. -/
def refScaleT (scale : FVec Ideal S8x3072x40 .f32) : FVec Ideal S8x40x3072 .f32 :=
  transpose S8x40x3072 [0, 2, 1] scale transposes_S8x3072x40_S8x40x3072_0_2_1

variable (U : Valuation τ sig (Elt Ideal))

/-- The projection of what the buffers hold when the region ends. -/
abbrev tailY : FVec Ideal S8x3072x1920 .bf16 :=
  refY (refXa (U (Proc.devRef .tc main_v35_1)) (U (Proc.devRef .tc main_v26))) (U (Proc.devRef .tc main_v35_2))
    (U (Proc.devRef .tc main_arg2)) (U (Proc.devRef .tc main_arg3))

/-- What q holds at the end. -/
theorem tail_q : StableHlo.after [hostOps1].flatten U (Proc.devRef .tc main_v53) = refQ (tailY U) := by
  after_reads_simp
  clean_types
  unfold tailY refQ refHeads refY refXa
  rfl

/-- What k holds at the end. -/
theorem tail_k : StableHlo.after [hostOps1].flatten U (Proc.devRef .tc main_v54) = refKey (tailY U) := by
  after_reads_simp
  clean_types
  unfold tailY refKey refHeads refY refXa
  rfl

/-- What v holds at the end. -/
theorem tail_v : StableHlo.after [hostOps1].flatten U (Proc.devRef .tc main_v55) = refV (tailY U) := by
  after_reads_simp
  clean_types
  unfold tailY refV refHeads refY refXa
  rfl

/-- What the scales hold at the end. -/
theorem tail_scale : StableHlo.after [hostOps1].flatten U (Proc.devRef .tc main_v56) = refScaleT (U (Proc.devRef .tc main_v26)) := by
  after_reads_simp
  clean_types
  unfold refScaleT
  rfl

/-! ## At an index -/

/-- The codes times their scales, by lane blocks. -/
theorem xa_lane_apply (codes : FVec Ideal S8x3072x5120 .bf16) (scale : FVec Ideal S8x3072x40 .f32) (b : Fin 8) (s : Fin 3072)
    (j : Fin 40) (k : Fin 128) :
    mulf (shapeCast S8x3072x40x128 codes shapeCasts_S8x3072x5120_S8x3072x40x128)
      (broadcastInDim S8x3072x40x128 ![0, 1, 2, 3] bcast_S8x3072x40x1_S8x3072x40x128_0_1_2_3
        (broadcastInDim S8x3072x40x1 ![0, 1, 2] bcast_S8x3072x40_S8x3072x40x1_0_1_2
          (truncf .bf16 scale bitsLt_bf16_f32))) (ix4 b s j k)
      = codes (ix3 b s (colOf j k)) * scale (ix3 b s j) := by
  have e : colOf j k = ⟨j.val * 128 + k.val, by omega⟩ :=
    Fin.ext (by show 128 * j.val + k.val = j.val * 128 + k.val; omega)
  rw [e]
  pointwise

/-- The codes times their scales. -/
theorem refXa_apply (codes : FVec Ideal S8x3072x5120 .bf16) (scale : FVec Ideal S8x3072x40 .f32) (b : Fin 8) (s : Fin 3072)
    (n : Fin 5120) : refXa codes scale (ix3 b s n) = codes (ix3 b s n) * scale (ix3 b s (blkOf n)) := by
  unfold refXa
  rw [columns_apply, xa_lane_apply, colOf_blkOf]

/-- The projection. -/
theorem refY_apply (xa : FVec Ideal S8x3072x5120 .bf16) (w : FVec Ideal S5120x1920 .bf16) (ws : FVec Ideal S1920 .f32)
    (b : FVec Ideal S1920 .bf16) (i : Fin 8) (s : Fin 3072) (n : Fin 1920) :
    refY xa w ws b (ix3 i s n) = (∑ k, xa (ix3 i s k) * w (ix2 k n)) * ws (ix1 n) + b (ix1 n) := by
  unfold refY
  pointwise [dot_S8x3072x5120_S5120x1920_S8x3072x1920_2_0_01_1_n_n]

/-- The projection by heads. -/
theorem refHeads_apply (y : FVec Ideal S8x3072x1920 .bf16) (b : Fin 8) (h : Fin 15) (s : Fin 3072) (d : Fin 128) :
    refHeads y (ix4 b h s d) = y (ix3 b s ⟨h.val * 128 + d.val, by omega⟩) := by
  unfold refHeads
  pointwise

/-- q's head `h` is head `h` of the projection. -/
theorem refQ_apply (y : FVec Ideal S8x3072x1920 .bf16) (b : Fin 8) (h : Fin 5) (s : Fin 3072) (d : Fin 128) :
    refQ y (ix4 b h s d) = y (ix3 b s (headCol 0 h d)) := by
  unfold refQ
  pointwise [refHeads_apply]
  exact congrArg (fun n => y (ix3 b s n)) (Fin.ext (by show _ = 128 * (5 * 0 + h.val) + d.val; simp only []; omega))

/-- k's head `h` is head `5 + h` of the projection. -/
theorem refKey_apply (y : FVec Ideal S8x3072x1920 .bf16) (b : Fin 8) (h : Fin 5) (s : Fin 3072) (d : Fin 128) :
    refKey y (ix4 b h s d) = y (ix3 b s (headCol 1 h d)) := by
  unfold refKey
  pointwise [refHeads_apply]
  exact congrArg (fun n => y (ix3 b s n)) (Fin.ext (by show _ = 128 * (5 * 1 + h.val) + d.val; simp only []; omega))

/-- v's head `h` is head `10 + h` of the projection. -/
theorem refV_apply (y : FVec Ideal S8x3072x1920 .bf16) (b : Fin 8) (h : Fin 5) (s : Fin 3072) (d : Fin 128) :
    refV y (ix4 b h s d) = y (ix3 b s (headCol 2 h d)) := by
  unfold refV
  pointwise [refHeads_apply]
  exact congrArg (fun n => y (ix3 b s n)) (Fin.ext (by show _ = 128 * (5 * 2 + h.val) + d.val; simp only []; omega))

/-- The transposed scales. -/
theorem refScaleT_apply (scale : FVec Ideal S8x3072x40 .f32) (b : Fin 8) (j : Fin 40) (s : Fin 3072) :
    refScaleT scale (ix3 b j s) = scale (ix3 b s j) := by
  unfold refScaleT
  pointwise

end Cert.ReferenceIdeal.Gen

end
-- ==== Proof.Range.lean ====
/- The precondition on x, and what it gives: a lane block's largest magnitude over 448 is below 2^126 or infinite, so that the
   scale made as a word and the scale made as a power of two agree. -/
module

public import proofs.«01_k».proof.Proof.Spec
public import proofs.«01_k».proof.Pre_in_range
public import Idealize.ShloMosaic.Lib.Pointwise

@[expose] public section

noncomputable section

namespace Cert.Quant

open Idealize.ShloMosaic Idealize.ShloMosaic.Tactic

/-- What a pattern of a positive normal f32 denotes, by its exponent field `e` and its fraction field `f`. -/
theorem ofBits_normal (b : BitVec 32) (e f : ℕ) (hs : (b.extractLsb' (8 + 23) 1 == 1#1) = false)
    (he : (b.extractLsb' 23 8).toNat = e) (hf : (b.extractLsb' 0 23).toNat = f) (h0 : e ≠ 0) (h1 : e ≠ 255) :
    Ideal.ofBits .f32 b = (((2 ^ 23 + f) * 2 ^ ((e : ℤ) - 150) : ℝ) : EReal) := by
  simp only [Ideal.ofBits, Ideal.ieee, hs, he, hf]
  rw [if_neg (by omega), if_neg h0]
  refine congrArg (fun z : ℝ => (z : EReal)) ?_
  rw [show (e : ℤ) - (2 ^ (8 - 1) - 1) - ((23 : ℕ) : ℤ) = (e : ℤ) - 150 by norm_num; omega]
  push_cast
  norm_num

/-- The largest finite bf16. -/
theorem ofBits_max : Ideal.ofBits .f32 0x7F7F0000#32 = (((2 : ℝ) ^ 128 - 2 ^ 120 : ℝ) : EReal) := by
  rw [ofBits_normal _ 254 8323072 (by decide) (by decide) (by decide) (by decide) (by decide)]
  exact congrArg (fun z : ℝ => (z : EReal)) (by norm_num)

/-- The f32 next to 1/448. -/
theorem ofBits_inv448 : Ideal.ofBits .f32 0x3B124925#32 = ((9586981 / 2 ^ 32 : ℝ) : EReal) := by
  rw [ofBits_normal _ 118 1198373 (by decide) (by decide) (by decide) (by decide) (by decide)]
  exact congrArg (fun z : ℝ => (z : EReal)) (by norm_num)

/-- The f32 minus infinity. -/
theorem ofBits_bot : Ideal.ofBits .f32 0xFF800000#32 = ⊥ := by
  simp [Ideal.ofBits, Ideal.ieee]

/-- A row of values of magnitude at most the largest finite bf16, or infinite. -/
def RangeRow (row : Fin 5120 → EReal) : Prop :=
  ∀ n, max (row n) (-row n) ≤ Ideal.ofBits .f32 0x7F7F0000#32 ∨ max (row n) (-row n) = ⊤

/-- A lane block of finite bf16 values has its scaled magnitude below 2^126. -/
theorem scaled_lt (f : Fin 128 → EReal) (h : ∀ k, max (f k) (-f k) ≤ Ideal.ofBits .f32 0x7F7F0000#32) :
    scaled f < (((2 : ℝ) ^ (126 : ℤ) : ℝ) : EReal) := by
  have hle : Finset.univ.fold max (Ideal.ofBits .f32 0xFF800000#32) (fun k => max (f k) (-f k))
      ≤ Ideal.ofBits .f32 0x7F7F0000#32 :=
    (Finset.fold_max_le _).mpr ⟨by rw [ofBits_bot]; exact bot_le, fun k _ => h k⟩
  have hr : (0 : EReal) ≤ Ideal.ofBits .f32 0x3B124925#32 := by
    rw [ofBits_inv448]; exact_mod_cast (by norm_num : (0 : ℝ) ≤ 9586981 / 2 ^ 32)
  refine lt_of_le_of_lt (mul_le_mul_of_nonneg_right hle hr) ?_
  rw [ofBits_max, ofBits_inv448, ← EReal.coe_mul]
  exact EReal.coe_lt_coe_iff.mpr (by norm_num)

/-- A lane block with an infinite magnitude has its scaled magnitude infinite. -/
theorem scaled_top (f : Fin 128 → EReal) (k : Fin 128) (h : max (f k) (-f k) = ⊤) : scaled f = ⊤ := by
  have hle : Finset.univ.fold max (Ideal.ofBits .f32 0xFF800000#32) (fun k => max (f k) (-f k)) = ⊤ :=
    top_le_iff.mp ((Finset.le_fold_max _).mpr (Or.inr ⟨k, Finset.mem_univ _, h.ge⟩))
  unfold scaled
  rw [hle, ofBits_inv448]
  exact EReal.top_mul_coe_of_pos (by norm_num)

/-- The scale as a power of two. -/
def powerScale (t : EReal) : EReal := Ideal.pow 2 (exponentOf t)

/-- The inverse scale as a power of two. -/
def powerInverse (t : EReal) : EReal := Ideal.pow 2 (-exponentOf t)

/-- On such a row the scale made as a word is the one made as a power of two, and so is its inverse. -/
theorem scale_of_range (row : Fin 5120 → EReal) (h : RangeRow row) (j : Fin 40) :
    scaleOf (scaled (lanes row j)) = powerScale (scaled (lanes row j))
      ∧ inverseOf (scaled (lanes row j)) = powerInverse (scaled (lanes row j)) := by
    by_cases hk : ∃ k, max (lanes row j k) (-lanes row j k) = ⊤
    · obtain ⟨k, hk⟩ := hk
      rw [scaled_top _ k hk]
      exact scale_eq_top
    · exact scale_eq _ (scaled_lt _ fun k => (h (colOf j k)).resolve_right fun e => hk ⟨k, e⟩)

/-- On such a row both ways give the same scales, -/
theorem scaleAt_eq (row : Fin 5120 → EReal) (h : RangeRow row) (j : Fin 40) :
    scaleAt scaleOf row j = scaleAt powerScale row j := (scale_of_range row h j).1

/-- the same codes, -/
theorem codeAt_eq (row : Fin 5120 → EReal) (h : RangeRow row) (n : Fin 5120) :
    codeAt inverseOf row n = codeAt powerInverse row n := by
  unfold codeAt code
  rw [(scale_of_range row h (blkOf n)).2]

/-- and the same projection. -/
theorem projAt_eq (row : Fin 5120 → EReal) (h : RangeRow row) (w : Fin 5120 → Fin 1920 → EReal) (ws b : Fin 1920 → EReal)
    (n : Fin 1920) : projAt scaleOf inverseOf row w ws b n = projAt powerScale powerInverse row w ws b n := by
  unfold projAt xaAt
  simp only [scaleAt_eq row h, codeAt_eq row h]

end Cert.Quant

namespace Cert.Pre_in_range

open Idealize.ShloMosaic Idealize.ShloMosaic.Tactic Cert.Quant

/-- The precondition's side conditions. -/
theorem facts : Facts := ⟨by decide, by decide⟩

/-- The precondition says of every entry of x that its magnitude is at most the largest finite bf16, or infinite. -/
theorem range_of_pre [Facts] (x : FVec Ideal S8x3072x5120 .bf16) (w : FVec Ideal S5120x1920 .fp8e4m3)
    (ws : FVec Ideal S1920 .f32) (b : FVec Ideal S1920 .bf16) (h : fn x w ws b = fun _ => 1#1) (i : Fin 8) (s : Fin 3072) :
    RangeRow fun n => x (ix3 i s n) := by
  intro n
  have e : fn x w ws b (ix3 i s n) = 1#1 := by rw [h]
  have key : ∀ z, z = fn x w ws b (ix3 i s n) → z = 1#1 →
      max (x (ix3 i s n)) (-x (ix3 i s n)) ≤ Ideal.ofBits .f32 0x7F7F0000#32 ∨ max (x (ix3 i s n)) (-x (ix3 i s n)) = ⊤ := by
    intro z hz hz1
    unfold fn at hz
    pointwise at hz
    change z = IntOp.ori
      (BitVec.ofBool (decide (max (x (ix3 i s n)) (-x (ix3 i s n)) ≤ Ideal.ofBits .f32 0x7F7F0000#32)))
      (BitVec.ofBool (decide (max (x (ix3 i s n)) (-x (ix3 i s n)) = Ideal.ofBits .f32 0x7F800000#32))) at hz
    rw [show (0x7F800000#32 : BitVec 32) = word 255 by decide, ofBits_word_top, hz1] at hz
    by_contra hc
    obtain ⟨h1, h2⟩ := not_or.mp hc
    rw [decide_eq_false h1, decide_eq_false h2] at hz
    exact absurd hz (by decide)
  exact key _ rfl e

end Cert.Pre_in_range

end
-- ==== Proof.RRun.lean ====
/- The reference's run: what its five results hold at the end, as functions of its arguments. -/
module

public import proofs.«01_k».proof.Proof.RTail
public import proofs.«01_k».proof.Proof.Range
public import Idealize.ShloMosaic.Lib.Pipeline.ValueKit.Geometry

@[expose] public section

set_option maxRecDepth 16384

noncomputable section

namespace Cert.ReferenceIdeal.Gen

open Idealize.ShloMosaic Idealize.ShloMosaic.TcCoe Idealize.ShloMosaic.Tactic Idealize.SL.Sem Cert.Quant
open Idealize.ShloMosaic.Pipeline (Dat Cfg Window)

variable (m : (ℓ : Loc nD τ sig) → Buf (Elt Ideal) ℓ) (c : Dev nD)

/-! ## The region -/

/-- Window 0's block is the whole array. -/
theorem index0 : ∀ t : Fin cfg0.N, win0_0.index t = ![0, 0, 0] := (by decide +kernel : ∀ t : Fin grid0.N, _)
/-- Window 1's block is the whole array. -/
theorem index1 : ∀ t : Fin cfg0.N, win0_1.index t = ![0, 0] := (by decide +kernel : ∀ t : Fin grid0.N, _)
/-- Window 2's block is the whole array. -/
theorem index2 : ∀ t : Fin cfg0.N, win0_2.index t = ![0, 0, 0] := (by decide +kernel : ∀ t : Fin grid0.N, _)
/-- Window 3's block is the whole array. -/
theorem index3 : ∀ t : Fin cfg0.N, win0_3.index t = ![0, 0, 0] := (by decide +kernel : ∀ t : Fin grid0.N, _)
/-- Window 4's block is the whole array. -/
theorem index4 : ∀ t : Fin cfg0.N, win0_4.index t = ![0, 0] := (by decide +kernel : ∀ t : Fin grid0.N, _)

/-- The region's block of the clipped values is all of them. -/
theorem clip_blk (t : Fin cfg0.N) (b : Fin 8) (s : Fin 3072) (n : Fin 5120) :
    iblk m c 0 t (ix3 b s n) = refClip (argX m c) (ix3 b s n) := by
  blk_simp [iblk]
  rw [V_main_v34]
  refine congrArg (refClip (argX m c)) ?_
  blk_ext [index0]

/-- The region's block of the weights is the weights. -/
theorem w_blk (t : Fin cfg0.N) (k : Fin 5120) (n : Fin 1920) :
    iblk m c 1 t (ix2 k n) = m ((c : Thread nD τ).loc main_arg1) (ix2 k n) := by
  blk_simp [iblk]
  rw [V_main_arg1]
  refine congrArg (m ((c : Thread nD τ).loc main_arg1)) ?_
  blk_ext [index1]

/-- A load of the whole of x's shape. -/
theorem ld_x (x : Vec Ideal S8x3072x5120 .f32) (inb) :
    View.ld x (Rect.unit (s := S8x3072x5120) ![0, 0, 0] S8x3072x5120.size inb) = x :=
  View.ld_unit_zero (by funext i; fin_cases i <;> rfl) _ _

/-- A load of the whole of the weights. -/
theorem ld_w (x : Vec Ideal S5120x1920 .fp8e4m3) (inb) :
    View.ld x (Rect.unit (s := S5120x1920) ![0, 0] S5120x1920.size inb) = x :=
  View.ld_unit_zero (by funext i; fin_cases i <;> rfl) _ _

/-- What the body leaves as codes. -/
theorem out2_eq (x0 : Vec Ideal S8x3072x5120 .f32) (x1 : Vec Ideal S5120x1920 .fp8e4m3) : out0_2 x0 x1 = k0_pay1 x0 := by
  unfold out0_2
  refine (View.canon_unit_zero (Val := Elt Ideal) (S := S8x3072x5120) (off := ![0, 0, 0]) (by funext a; fin_cases a <;> rfl) _ _).trans ?_
  exact congrArg k0_pay1 (ld_x x0 _)

/-- What the body leaves as codes in bf16. -/
theorem out3_eq (x0 : Vec Ideal S8x3072x5120 .f32) (x1 : Vec Ideal S5120x1920 .fp8e4m3) : out0_3 x0 x1 = k0_pay2 x0 := by
  unfold out0_3
  refine (View.canon_unit_zero (Val := Elt Ideal) (S := S8x3072x5120) (off := ![0, 0, 0]) (by funext a; fin_cases a <;> rfl) _ _).trans ?_
  exact congrArg k0_pay2 (ld_x x0 _)

/-- What the body leaves as weights in bf16. -/
theorem out4_eq (x0 : Vec Ideal S8x3072x5120 .f32) (x1 : Vec Ideal S5120x1920 .fp8e4m3) : out0_4 x0 x1 = k0_pay3 x1 := by
  unfold out0_4
  refine (View.canon_unit_zero (Val := Elt Ideal) (S := S5120x1920) (off := ![0, 0]) (by funext a; fin_cases a <;> rfl) _ _).trans ?_
  exact congrArg k0_pay3 (ld_w x1 _)

/-- The casts change no value. -/
theorem pay1_apply (x : Vec Ideal S8x3072x5120 .f32) (b : Fin 8) (s : Fin 3072) (n : Fin 5120) :
    k0_pay1 x (ix3 b s n) = x (ix3 b s n) := by
  unfold k0_pay1
  pointwise

/-- The casts change no value. -/
theorem pay2_apply (x : Vec Ideal S8x3072x5120 .f32) (b : Fin 8) (s : Fin 3072) (n : Fin 5120) :
    k0_pay2 x (ix3 b s n) = x (ix3 b s n) := by
  unfold k0_pay2
  pointwise [pay1_apply]

/-- The cast changes no value. -/
theorem pay3_apply (x : Vec Ideal S5120x1920 .fp8e4m3) (k : Fin 5120) (n : Fin 1920) :
    k0_pay3 x (ix2 k n) = x (ix2 k n) := by
  unfold k0_pay3
  pointwise

/-- An index of x's shape by its three coordinates. -/
theorem eq_ix3 {a b d : ℕ} (y : (⟨3, ![a, b, d]⟩ : Shape).Idx) : y = ix3 (y 0 : Fin a) (y 1 : Fin b) (y 2 : Fin d) := by
  funext a
  fin_cases a <;> rfl

/-- An index of the weights' shape by its two coordinates. -/
theorem eq_ix2 {a b : ℕ} (y : (⟨2, ![a, b]⟩ : Shape).Idx) : y = ix2 (y 0 : Fin a) (y 1 : Fin b) := by
  funext a
  fin_cases a <;> rfl

/-- An index of the heads' shape by its four coordinates. -/
theorem eq_ix4 {a b d e : ℕ} (y : (⟨4, ![a, b, d, e]⟩ : Shape).Idx) :
    y = ix4 (y 0 : Fin a) (y 1 : Fin b) (y 2 : Fin d) (y 3 : Fin e) := by
  funext a
  fin_cases a <;> rfl

/-- The codes. -/
theorem final_codes : (dats m 0 c).arrAt 2 cfg0.N = refClip (argX m c) := by
  refine (dats m 0 c).arrAt_eq_of_covers 2 _ (by decide +kernel) fun t hf y => ?_
  blk_simp
  obtain ⟨b, s, n, rfl⟩ : ∃ (b : Fin 8) (s : Fin 3072) (n : Fin 5120), y = (ix3 b s n : S8x3072x5120.Idx) :=
    ⟨_, _, _, eq_ix3 y⟩
  rw [after0_2, out2_eq, pay1_apply, clip_blk]
  rw [show (win0_2.blk t).view.emb (ix3 b s n) = (ix3 b s n : S8x3072x5120.Idx) by blk_ext [index2]]

/-- The codes in bf16. -/
theorem final_codes16 : (dats m 0 c).arrAt 3 cfg0.N = refClip (argX m c) := by
  refine (dats m 0 c).arrAt_eq_of_covers 3 _ (by decide +kernel) fun t hf y => ?_
  blk_simp
  obtain ⟨b, s, n, rfl⟩ : ∃ (b : Fin 8) (s : Fin 3072) (n : Fin 5120), y = (ix3 b s n : S8x3072x5120.Idx) :=
    ⟨_, _, _, eq_ix3 y⟩
  rw [after0_3, out3_eq, pay2_apply, clip_blk]
  rw [show (win0_3.blk t).view.emb (ix3 b s n) = (ix3 b s n : S8x3072x5120.Idx) by blk_ext [index3]]

/-- The weights in bf16. -/
theorem final_w16 : (dats m 0 c).arrAt 4 cfg0.N = m ((c : Thread nD τ).loc main_arg1) := by
  refine (dats m 0 c).arrAt_eq_of_covers 4 _ (by decide +kernel) fun t hf y => ?_
  blk_simp
  obtain ⟨k, n, rfl⟩ : ∃ (k : Fin 5120) (n : Fin 1920), y = (ix2 k n : S5120x1920.Idx) := ⟨_, _, eq_ix2 y⟩
  rw [after0_4, out4_eq, pay3_apply, w_blk]
  rw [show (win0_4.blk t).view.emb (ix2 k n) = (ix2 k n : S5120x1920.Idx) by blk_ext [index4]]

end Cert.ReferenceIdeal.Gen

end
-- ==== Proof.RRes.lean ====
/- The reference's run with its five results as functions of its arguments, entry by entry. -/
module

public import proofs.«01_k».proof.Proof.RRun

@[expose] public section

set_option maxRecDepth 16384

noncomputable section

namespace Cert.ReferenceIdeal.Gen

open Idealize.ShloMosaic Idealize.ShloMosaic.TcCoe Idealize.ShloMosaic.Tactic Idealize.SL.Sem Cert.Quant
open Idealize.ShloMosaic.Pipeline (Dat Cfg Window)

variable (m : (ℓ : Loc nD τ sig) → Buf (Elt Ideal) ℓ) (c : Dev nD)

/-- The weights. -/
abbrev argW : Vec Ideal S5120x1920 .fp8e4m3 := m ((c : Thread nD τ).loc main_arg1)
/-- The weights' scales. -/
abbrev argS : Vec Ideal S1920 .f32 := m ((c : Thread nD τ).loc main_arg2)
/-- The bias. -/
abbrev argB : Vec Ideal S1920 .bf16 := m ((c : Thread nD τ).loc main_arg3)

/-- What the device's buffers hold when the region ends. -/
abbrev atEnd : Valuation τ sig (Elt Ideal) :=
  Pipeline.withArrays spec0 c (V0 m c) fun w => (dats m 0 c).arrAt w cfg0.N

/-- The codes in bf16 when the region ends. -/
theorem atEnd_codes : atEnd m c (Proc.devRef .tc main_v35_1) = refClip (argX m c) :=
  (Pipeline.withArrays_arr spec0 launch0.win.arr_inj c (V0 m c) (fun w => (dats m 0 c).arrAt w cfg0.N) 3).trans
    (final_codes16 m c)

/-- The weights in bf16 when the region ends. -/
theorem atEnd_w : atEnd m c (Proc.devRef .tc main_v35_2) = argW m c :=
  (Pipeline.withArrays_arr spec0 launch0.win.arr_inj c (V0 m c) (fun w => (dats m 0 c).arrAt w cfg0.N) 4).trans
    (final_w16 m c)

/-- The scales when the region ends. -/
theorem atEnd_scale : atEnd m c (Proc.devRef .tc main_v26) = refPow (refE (refT (argX m c))) :=
  (Pipeline.withArrays_of_ne _ c (V0 m c) _ main_v26 (by exact (by decide : ∀ w, Pipeline.arrRef spec0 w ≠ main_v26))).trans
    (V_main_v26 m c)

/-- The weights' scales when the region ends. -/
theorem atEnd_ws : atEnd m c (Proc.devRef .tc main_arg2) = argS m c :=
  (Pipeline.withArrays_of_ne _ c (V0 m c) _ main_arg2 (by exact (by decide : ∀ w, Pipeline.arrRef spec0 w ≠ main_arg2))).trans
    (V_main_arg2 m c)

/-- The bias when the region ends. -/
theorem atEnd_b : atEnd m c (Proc.devRef .tc main_arg3) = argB m c :=
  (Pipeline.withArrays_of_ne _ c (V0 m c) _ main_arg3 (by exact (by decide : ∀ w, Pipeline.arrRef spec0 w ≠ main_arg3))).trans
    (V_main_arg3 m c)

/-- The scales of a row's lane blocks. -/
theorem scale_apply (x : Vec Ideal S8x3072x5120 .bf16) (b : Fin 8) (s : Fin 3072) (j : Fin 40) :
    refPow (refE (refT x)) (ix3 b s j) = scaleAt powerScale (fun n => x (ix3 b s n)) j := by
  rw [refPow_apply, refE_apply, refT_apply]
  rfl

/-- The projection when the region ends, at an index. -/
theorem tailY_apply (b : Fin 8) (s : Fin 3072) (n : Fin 1920) :
    tailY (atEnd m c) (ix3 b s n) = projAt powerScale powerInverse (fun k => argX m c (ix3 b s k))
      (fun k n => argW m c (ix2 k n)) (fun n => argS m c (ix1 n)) (fun n => argB m c (ix1 n)) n := by
  unfold tailY
  rw [atEnd_codes, atEnd_w, atEnd_scale, atEnd_ws, atEnd_b, refY_apply]
  simp only [refXa_apply, scale_apply, refClip_apply]
  rfl

/-- Output `g` of the projection (0 for q, 1 for k, 2 for v), heads before tokens. -/
def headsArr (g : Fin 3) (i : S8x5x3072x128.Idx) : EReal :=
  projAt powerScale powerInverse (fun k => argX m c (ix3 (i 0) (i 2) k)) (fun k n => argW m c (ix2 k n))
    (fun n => argS m c (ix1 n)) (fun n => argB m c (ix1 n)) (headCol g (i 1) (i 3))

/-- q at the end. -/
theorem end_q : refQ (tailY (atEnd m c)) = headsArr m c 0 := by
  funext y
  obtain ⟨b, h, s, d, rfl⟩ : ∃ (b : Fin 8) (h : Fin 5) (s : Fin 3072) (d : Fin 128), y = (ix4 b h s d : S8x5x3072x128.Idx) :=
    ⟨_, _, _, _, eq_ix4 y⟩
  rw [refQ_apply, tailY_apply]
  rfl

/-- k at the end. -/
theorem end_k : refKey (tailY (atEnd m c)) = headsArr m c 1 := by
  funext y
  obtain ⟨b, h, s, d, rfl⟩ : ∃ (b : Fin 8) (h : Fin 5) (s : Fin 3072) (d : Fin 128), y = (ix4 b h s d : S8x5x3072x128.Idx) :=
    ⟨_, _, _, _, eq_ix4 y⟩
  rw [refKey_apply, tailY_apply]
  rfl

/-- v at the end. -/
theorem end_v : refV (tailY (atEnd m c)) = headsArr m c 2 := by
  funext y
  obtain ⟨b, h, s, d, rfl⟩ : ∃ (b : Fin 8) (h : Fin 5) (s : Fin 3072) (d : Fin 128), y = (ix4 b h s d : S8x5x3072x128.Idx) :=
    ⟨_, _, _, _, eq_ix4 y⟩
  rw [refV_apply, tailY_apply]
  rfl

/-- The codes at the end. -/
theorem end_codes : refClip (argX m c) = fun i : S8x3072x5120.Idx =>
    codeAt powerInverse (fun k => argX m c (ix3 (i 0) (i 1) k)) (i 2) := by
  funext y
  obtain ⟨b, s, n, rfl⟩ : ∃ (b : Fin 8) (s : Fin 3072) (n : Fin 5120), y = (ix3 b s n : S8x3072x5120.Idx) :=
    ⟨_, _, _, eq_ix3 y⟩
  rw [refClip_apply]
  rfl

/-- The transposed scales at the end. -/
theorem end_scale : refScaleT (refPow (refE (refT (argX m c)))) = fun i : S8x40x3072.Idx =>
    scaleAt powerScale (fun k => argX m c (ix3 (i 0) (i 2) k)) (i 1) := by
  funext y
  obtain ⟨b, j, s, rfl⟩ : ∃ (b : Fin 8) (j : Fin 40) (s : Fin 3072), y = (ix3 b j s : S8x40x3072.Idx) :=
    ⟨_, _, _, eq_ix3 y⟩
  rw [refScaleT_apply, scale_apply]
  rfl

variable (ρ : Dev nD → PrngReg)

/-- THE REFERENCE'S RUN: every execution ends with q, k and v the three parts of the projection, the codes and the
    transposed scales those of x's lane blocks, the arguments unchanged. -/
theorem run_values : θ_run defs (onTc (τ := τ) (main (F := Ideal))) ⟨m, fun _ => 0, ρ⟩ fun r => ∀ c : Dev nD,
      r.2.mem ((c : Thread nD τ).loc main_v53) = headsArr m c 0
      ∧ r.2.mem ((c : Thread nD τ).loc main_v54) = headsArr m c 1
      ∧ r.2.mem ((c : Thread nD τ).loc main_v55) = headsArr m c 2
      ∧ r.2.mem ((c : Thread nD τ).loc main_v35_0)
        = (fun i : S8x3072x5120.Idx => codeAt powerInverse (fun k => argX m c (ix3 (i 0) (i 1) k)) (i 2))
      ∧ r.2.mem ((c : Thread nD τ).loc main_v56)
        = (fun i : S8x40x3072.Idx => scaleAt powerScale (fun k => argX m c (ix3 (i 0) (i 2) k)) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨
      ((h.1 c).2 main_v53 (Pipeline.mem_restRefs_of main_v53 (by decide) (by decide))).trans ((tail_q _).trans (end_q m c)),
      ((h.1 c).2 main_v54 (Pipeline.mem_restRefs_of main_v54 (by decide) (by decide))).trans ((tail_k _).trans (end_k m c)),
      ((h.1 c).2 main_v55 (Pipeline.mem_restRefs_of main_v55 (by decide) (by decide))).trans ((tail_v _).trans (end_v m c)),
      ((h.1 c).1 2).trans ((final_codes m c).trans (end_codes m c)),
      ((h.1 c).2 main_v56 (Pipeline.mem_restRefs_of main_v56 (by decide) (by decide))).trans
        ((tail_scale _).trans ((congrArg refScaleT (atEnd_scale m c)).trans (end_scale m c))),
      h.2 c⟩)
    (θ_run_and (run_main m ρ) (unchanged m ρ))

end Cert.ReferenceIdeal.Gen

end
-- ==== Proof.Equal.lean ====
/- The kernel's run and the reference's run end with the same five results. -/
module

public import proofs.«01_k».proof.Defs
public import proofs.«01_k».proof.Proof.KArr
public import proofs.«01_k».proof.Proof.RRes

@[expose] public section

noncomputable section

namespace Cert.Proof

open Idealize.ShloMosaic Idealize.ShloMosaic.TcCoe Idealize.ShloMosaic.Tactic Idealize.SL.Sem Cert.Quant

/-- The kernel's run with its five results as functions of its arguments. -/
theorem kernel_values (m : (ℓ : Loc KernelIdeal.nD KernelIdeal.τ KernelIdeal.sig) → Buf (Elt Ideal) ℓ)
    (g : Dev KernelIdeal.nD → PrngReg) :
    θ_run (KernelIdeal.defs (F := Ideal)) (onTc (τ := KernelIdeal.τ) (KernelIdeal.main (F := Ideal))) ⟨m, fun _ => 0, g⟩
      fun r => ∀ c : Dev KernelIdeal.nD,
      r.2.mem ((c : Thread KernelIdeal.nD KernelIdeal.τ).loc KernelIdeal.main_v2_0) = KernelIdeal.Gen.headsArr m c 0
      ∧ r.2.mem ((c : Thread KernelIdeal.nD KernelIdeal.τ).loc KernelIdeal.main_v2_1) = KernelIdeal.Gen.headsArr m c 1
      ∧ r.2.mem ((c : Thread KernelIdeal.nD KernelIdeal.τ).loc KernelIdeal.main_v2_2) = KernelIdeal.Gen.headsArr m c 2
      ∧ r.2.mem ((c : Thread KernelIdeal.nD KernelIdeal.τ).loc KernelIdeal.main_v2_3)
        = (fun i : KernelIdeal.S8x3072x5120.Idx => codeAt inverseOf (fun k => KernelIdeal.Gen.argX m c (ix3 (i 0) (i 1) k)) (i 2))
      ∧ r.2.mem ((c : Thread KernelIdeal.nD KernelIdeal.τ).loc KernelIdeal.main_v2_4)
        = (fun i : KernelIdeal.S8x40x3072.Idx => scaleAt scaleOf (fun k => KernelIdeal.Gen.argX m c (ix3 (i 0) (i 2) k)) (i 1))
      ∧ r.2.mem ((c : Thread KernelIdeal.nD KernelIdeal.τ).loc KernelIdeal.main_arg0)
        = m ((c : Thread KernelIdeal.nD KernelIdeal.τ).loc KernelIdeal.main_arg0)
      ∧ r.2.mem ((c : Thread KernelIdeal.nD KernelIdeal.τ).loc KernelIdeal.main_arg1)
        = m ((c : Thread KernelIdeal.nD KernelIdeal.τ).loc KernelIdeal.main_arg1)
      ∧ r.2.mem ((c : Thread KernelIdeal.nD KernelIdeal.τ).loc KernelIdeal.main_arg2)
        = m ((c : Thread KernelIdeal.nD KernelIdeal.τ).loc KernelIdeal.main_arg2)
      ∧ r.2.mem ((c : Thread KernelIdeal.nD KernelIdeal.τ).loc KernelIdeal.main_arg3)
        = m ((c : Thread KernelIdeal.nD KernelIdeal.τ).loc KernelIdeal.main_arg3) :=
  (θ_run KernelIdeal.defs _ _).mono (fun r h c => by
    obtain ⟨h0, h1, h2, h3, h4, h5⟩ := h c
    exact ⟨h0.trans (KernelIdeal.Gen.final_q m c), h1.trans (KernelIdeal.Gen.final_k m c),
      h2.trans (KernelIdeal.Gen.final_v m c), h3.trans (KernelIdeal.Gen.final_codes m c),
      h4.trans (KernelIdeal.Gen.final_scale m c), h5⟩)
    (KernelIdeal.Value.run_blocks m g)

section
variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)
  (hx : ReferenceIdeal.Gen.argX m' c = KernelIdeal.Gen.argX m c)

/-- x is in range, row by row. -/
def RangeX : Prop := ∀ (b : Fin 8) (s : Fin 3072), RangeRow fun n => KernelIdeal.Gen.argX m c (ix3 b s n)

variable (hr : RangeX m c)

include hx hr

/-- The same output `g` of the projection. -/
theorem heads_same (hw : ReferenceIdeal.Gen.argW m' c = KernelIdeal.Gen.argW m c)
    (hs : ReferenceIdeal.Gen.argS m' c = KernelIdeal.Gen.argS m c)
    (hb : ReferenceIdeal.Gen.argB m' c = KernelIdeal.Gen.argB m c) (g : Fin 3) :
    ReferenceIdeal.Gen.headsArr m' c g = KernelIdeal.Gen.headsArr m c g := by
  funext i
  unfold ReferenceIdeal.Gen.headsArr KernelIdeal.Gen.headsArr
  rw [hx, hw, hs, hb]
  exact (projAt_eq _ (hr _ _) _ _ _ _).symm

/-- The same codes. -/
theorem codes_same :
    (fun i : ReferenceIdeal.S8x3072x5120.Idx => codeAt powerInverse (fun k => ReferenceIdeal.Gen.argX m' c (ix3 (i 0) (i 1) k)) (i 2))
      = fun i : KernelIdeal.S8x3072x5120.Idx => codeAt inverseOf (fun k => KernelIdeal.Gen.argX m c (ix3 (i 0) (i 1) k)) (i 2) := by
  funext i
  rw [hx]
  exact (codeAt_eq _ (hr _ _) _).symm

/-- The same scales. -/
theorem scales_same :
    (fun i : ReferenceIdeal.S8x40x3072.Idx => scaleAt powerScale (fun k => ReferenceIdeal.Gen.argX m' c (ix3 (i 0) (i 2) k)) (i 1))
      = fun i : KernelIdeal.S8x40x3072.Idx => scaleAt scaleOf (fun k => KernelIdeal.Gen.argX m c (ix3 (i 0) (i 2) k)) (i 1) := by
  funext i
  rw [hx]
  exact (scaleAt_eq _ (hr _ _) _).symm

end

/-- For x in the range of bf16 the kernel and the reference end with the same q, k, v, codes and scales. -/
theorem algebraic : algebraic_KernelIdeal_ReferenceIdeal_pre_in_range (hKernelIdeal := KernelIdeal.Gen.facts)
    (hReferenceIdeal := ReferenceIdeal.Gen.facts) (hPre_in_range := Pre_in_range.facts) := by
  intro m g m' g' hpre hargs
  have hr : ∀ c, RangeX m c := fun c b s =>
    @Pre_in_range.range_of_pre Pre_in_range.facts _ _ _ _ (hpre c) b s
  refine ⟨_, _, _, _, _, kernel_values m g, (θ_run ReferenceIdeal.defs _ _).mono (fun r h c => ?_)
    (ReferenceIdeal.Gen.run_values m' g')⟩
  obtain ⟨h0, h1, h2, h3, h4, h5⟩ := h c
  obtain ⟨hx, hw, hs, hb⟩ := hargs c
  exact ⟨h0.trans (heads_same m m' c hx (hr c) hw hs hb 0), h1.trans (heads_same m m' c hx (hr c) hw hs hb 1),
    h2.trans (heads_same m m' c hx (hr c) hw hs hb 2), h3.trans (codes_same m m' c hx (hr c)),
    h4.trans (scales_same m m' c hx (hr c)), h5⟩

end Cert.Proof

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Frame
public import proofs.«01_k».proof.Proof.Equal

@[expose] public section

theorem Cert.Proof.claim : Cert.Claim :=
  ⟨Cert.Kernel.Gen.facts, Cert.KernelIdeal.Gen.facts, Cert.ReferenceIdeal.Gen.facts, Cert.Pre_in_range.facts,
    fun m ρ _ => Cert.Kernel.Gen.frame m ρ,
    fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ,
    trivial, Cert.Proof.algebraic⟩
